-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S4096x512 : Shape := ⟨2, ![4096, 512]⟩
abbrev S1024x2048 : Shape := ⟨2, ![1024, 2048]⟩
abbrev S4x128 : Shape := ⟨2, ![4, 128]⟩
abbrev S4x1024x512 : Shape := ⟨3, ![4, 1024, 512]⟩
abbrev S4 : Shape := ⟨1, ![4]⟩
abbrev S_ : Shape := ⟨0, ![]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩
abbrev S1x128 : Shape := ⟨2, ![1, 128]⟩
abbrev S128 : Shape := ⟨1, ![128]⟩
abbrev S1x4x128 : Shape := ⟨3, ![1, 4, 128]⟩

abbrev nBuf : Space → Nat
  | .hbm => 3
  | .vmem => 8
  | .smem => 0
  | _ => 0

abbrev bufTy : (tb : Table) → Fin (tcTables nBuf tb) → BufTy
  | .hbm, ⟨0, _⟩ => ⟨S1024x4096, .bf16⟩
  | .hbm, ⟨1, _⟩ => ⟨S4096x2048, .bf16⟩
  | .hbm, ⟨2, _⟩ => ⟨S4096x512, .f32⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .f32⟩
  | .local _ .vmem, ⟨4, _⟩ => ⟨S1024x2048, .f32⟩
  | .local _ .vmem, ⟨5, _⟩ => ⟨S4x128, .f32⟩
  | .local _ .vmem, ⟨6, _⟩ => ⟨S4x1024x512, .fp8e4m3⟩
  | .local _ .vmem, ⟨7, _⟩ => ⟨S4x1024x512, .fp8e4m3⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v32 : BitVec 32 := Scalar.addi v2 c1_i32_11
  let c4_i32_12 : BitVec 32 := 4#32
  let c0_i32_13 : BitVec 32 := 0#32
  let v33 : BitVec 1 := Scalar.cmpi .eq c4_i32_12 c0_i32_13
  let c1_i32_14 : BitVec 32 := 1#32
  let v34 : BitVec 32 := Scalar.select v33 c1_i32_14 c4_i32_12
  let v35 : BitVec 32 := Scalar.remsi v32 v34
  let c0_i32_16 : BitVec 32 := 0#32
  let v37 : BitVec 1 := Scalar.cmpi .slt v35 c0_i32_16
  let c0_i32_17 : BitVec 32 := 0#32
  let v38 : BitVec 1 := Scalar.cmpi .slt v34 c0_i32_17
  let v39 : BitVec 1 := Scalar.xori v37 v38
  let c0_i32_15 : BitVec 32 := 0#32
  let v36 : BitVec 1 := Scalar.cmpi .ne v35 c0_i32_15
  let v40 : BitVec 1 := Scalar.andi v39 v36
  let v41 : BitVec 32 := Scalar.addi v35 v34
  let v42 : BitVec 32 := Scalar.select v40 v41 v35
  let c1_i32_19 : BitVec 32 := 1#32
  let v43 : BitVec 32 := Scalar.muli v42 c1_i32_19
  let v44 : BitVec 32 := Scalar.addi c0_i32_20 v43
  v44.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v45 : BitVec 32 := Scalar.addi v2 c2_i32
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c1_i32_28 : BitVec 32 := 1#32
  let v56 : BitVec 32 := Scalar.muli v55 c1_i32_28
  let v57 : BitVec 32 := Scalar.addi c0_i32_29 v56
  v57.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_30 : BitVec 32 := 3#32
  let v58 : BitVec 32 := Scalar.addi v2 c3_i32_30
  let c4_i32_31 : BitVec 32 := 4#32
  let c0_i32_32 : BitVec 32 := 0#32
  let v59 : BitVec 1 := Scalar.cmpi .eq c4_i32_31 c0_i32_32
  let c1_i32_33 : BitVec 32 := 1#32
  let v60 : BitVec 32 := Scalar.select v59 c1_i32_33 c4_i32_31
  let v61 : BitVec 32 := Scalar.remsi v58 v60
  let c0_i32_35 : BitVec 32 := 0#32
  let v63 : BitVec 1 := Scalar.cmpi .slt v61 c0_i32_35
  let c0_i32_36 : BitVec 32 := 0#32
  let v64 : BitVec 1 := Scalar.cmpi .slt v60 c0_i32_36
  let v65 : BitVec 1 := Scalar.xori v63 v64
  let c0_i32_34 : BitVec 32 := 0#32
  let v62 : BitVec 1 := Scalar.cmpi .ne v61 c0_i32_34
  let v66 : BitVec 1 := Scalar.andi v65 v62
  let v67 : BitVec 32 := Scalar.addi v61 v60
  let v68 : BitVec 32 := Scalar.select v66 v67 v61
  let c1_i32_38 : BitVec 32 := 1#32
  let v69 : BitVec 32 := Scalar.muli v68 c1_i32_38
  let v70 : BitVec 32 := Scalar.addi c0_i32_39 v69
  v70.toNat
def k0_off1 (i : grid0.Coords) : Fin 2 → Nat :=
  let c0_4 : Index := 0#32
  let arg0 : BitVec 32 := BitVec.ofNat 32 (i 0).val
  let c512_i32 : BitVec 32 := 512#32
  let v11 : BitVec 32 := Scalar.muli arg0 c512_i32
  let v12 : Index := Scalar.indexCast v11
  ![0, v12.toNat]
def k0_cond4 (i : grid0.Coords) : BitVec 1 :=
  let arg0 : BitVec 32 := BitVec.ofNat 32 (i 0).val
  let c3_i32 : BitVec 32 := 3#32
  let v28 : BitVec 1 := Scalar.cmpi .eq arg0 c3_i32
  let v29 : BitVec 32 := Scalar.extui v28
  let c0_i32_10 : BitVec 32 := 0#32
  let v30 : BitVec 1 := Scalar.cmpi .ne v29 c0_i32_10
  v30

def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v31 : BitVec 32 := Scalar.addi v2 c1_i32_11
  let c4_i32_12 : BitVec 32 := 4#32
  let c0_i32_13 : BitVec 32 := 0#32
  let v32 : BitVec 1 := Scalar.cmpi .eq c4_i32_12 c0_i32_13
  let c1_i32_14 : BitVec 32 := 1#32
  let v33 : BitVec 32 := Scalar.select v32 c1_i32_14 c4_i32_12
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  let c1_i32_22 : BitVec 32 := 1#32
  let v42 : BitVec 32 := Scalar.muli v41 c1_i32_22
  let v43 : BitVec 32 := Scalar.addi c0_i32_23 v42
  v43.toNat
def k0_dev5 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v52 : BitVec 32 := Scalar.addi v2 c2_i32
  let c4_i32_26 : BitVec 32 := 4#32
  let c0_i32_27 : BitVec 32 := 0#32
  let v53 : BitVec 1 := Scalar.cmpi .eq c4_i32_26 c0_i32_27
  let c1_i32_28 : BitVec 32 := 1#32
  let v54 : BitVec 32 := Scalar.select v53 c1_i32_28 c4_i32_26
  let v55 : BitVec 32 := Scalar.remsi v52 v54
  let c0_i32_30 : BitVec 32 := 0#32
  let v57 : BitVec 1 := Scalar.cmpi .slt v55 c0_i32_30
  let c0_i32_31 : BitVec 32 := 0#32
  let v58 : BitVec 1 := Scalar.cmpi .slt v54 c0_i32_31
  let v59 : BitVec 1 := Scalar.xori v57 v58
  let c0_i32_29 : BitVec 32 := 0#32
  let v56 : BitVec 1 := Scalar.cmpi .ne v55 c0_i32_29
  let v60 : BitVec 1 := Scalar.andi v59 v56
  let v61 : BitVec 32 := Scalar.addi v55 v54
  let v62 : BitVec 32 := Scalar.select v60 v61 v55
  let c1_i32_36 : BitVec 32 := 1#32
  let v63 : BitVec 32 := Scalar.muli v62 c1_i32_36
  let v64 : BitVec 32 := Scalar.addi c0_i32_37 v63
  v64.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v73 : BitVec 32 := Scalar.addi v2 c3_i32_40
  let c4_i32_41 : BitVec 32 := 4#32
  let c0_i32_42 : BitVec 32 := 0#32
  let v74 : BitVec 1 := Scalar.cmpi .eq c4_i32_41 c0_i32_42
  let c1_i32_43 : BitVec 32 := 1#32
  let v75 : BitVec 32 := Scalar.select v74 c1_i32_43 c4_i32_41
  let v76 : BitVec 32 := Scalar.remsi v73 v75
  let c0_i32_45 : BitVec 32 := 0#32
  let v78 : BitVec 1 := Scalar.cmpi .slt v76 c0_i32_45
  let c0_i32_46 : BitVec 32 := 0#32
  let v79 : BitVec 1 := Scalar.cmpi .slt v75 c0_i32_46
  let v80 : BitVec 1 := Scalar.xori v78 v79
  let c0_i32_44 : BitVec 32 := 0#32
  let v77 : BitVec 1 := Scalar.cmpi .ne v76 c0_i32_44
  let v81 : BitVec 1 := Scalar.andi v80 v77
  let v82 : BitVec 32 := Scalar.addi v76 v75
  let v83 : BitVec 32 := Scalar.select v81 v82 v76
  let c1_i32_51 : BitVec 32 := 1#32
  let v84 : BitVec 32 := Scalar.muli v83 c1_i32_51
  let v85 : BitVec 32 := Scalar.addi c0_i32_52 v84
  v85.toNat
def k0_off2 (d0 : Dev nD) (c1_i32_84 : BitVec 32) : Fin 2 → Nat :=
  let c0_92 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v125 : BitVec 32 := Scalar.addi v2 c1_i32_84
  let c4_i32_85 : BitVec 32 := 4#32
  let c0_i32_86 : BitVec 32 := 0#32
  let v126 : BitVec 1 := Scalar.cmpi .eq c4_i32_85 c0_i32_86
  let c1_i32_87 : BitVec 32 := 1#32
  let v127 : BitVec 32 := Scalar.select v126 c1_i32_87 c4_i32_85
  let v128 : BitVec 32 := Scalar.remsi v125 v127
  let c0_i32_89 : BitVec 32 := 0#32
  let v130 : BitVec 1 := Scalar.cmpi .slt v128 c0_i32_89
  let c0_i32_90 : BitVec 32 := 0#32
  let v131 : BitVec 1 := Scalar.cmpi .slt v127 c0_i32_90
  let v132 : BitVec 1 := Scalar.xori v130 v131
  let c0_i32_88 : BitVec 32 := 0#32
  let v129 : BitVec 1 := Scalar.cmpi .ne v128 c0_i32_88
  let v133 : BitVec 1 := Scalar.andi v132 v129
  let v134 : BitVec 32 := Scalar.addi v128 v127
  let v135 : BitVec 32 := Scalar.select v133 v134 v128
  let c512_i32_91 : BitVec 32 := 512#32
  let v136 : BitVec 32 := Scalar.muli v135 c512_i32_91
  let v137 : Index := Scalar.indexCast v136
  ![0, v137.toNat]
def k0_dev7 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_84 : BitVec 32 := 1#32
  let v125 : BitVec 32 := Scalar.addi v2 c1_i32_84
  let c4_i32_85 : BitVec 32 := 4#32
  let c0_i32_86 : BitVec 32 := 0#32
  let v126 : BitVec 1 := Scalar.cmpi .eq c4_i32_85 c0_i32_86
  let c1_i32_87 : BitVec 32 := 1#32
  let v127 : BitVec 32 := Scalar.select v126 c1_i32_87 c4_i32_85
  let v128 : BitVec 32 := Scalar.remsi v125 v127
  let c0_i32_89 : BitVec 32 := 0#32
  let v130 : BitVec 1 := Scalar.cmpi .slt v128 c0_i32_89
  let c0_i32_90 : BitVec 32 := 0#32
  let v131 : BitVec 1 := Scalar.cmpi .slt v127 c0_i32_90
  let v132 : BitVec 1 := Scalar.xori v130 v131
  let c0_i32_88 : BitVec 32 := 0#32
  let v129 : BitVec 1 := Scalar.cmpi .ne v128 c0_i32_88
  let v133 : BitVec 1 := Scalar.andi v132 v129
  let v134 : BitVec 32 := Scalar.addi v128 v127
  let v135 : BitVec 32 := Scalar.select v133 v134 v128
  let c1_i32_101 : BitVec 32 := 1#32
  let v149 : BitVec 32 := Scalar.muli v135 c1_i32_101
  let v150 : BitVec 32 := Scalar.addi c0_i32_102 v149
  v150.toNat
def k0_dev8 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_107 : BitVec 32 := 2#32
  let v159 : BitVec 32 := Scalar.addi v2 c2_i32_107
  let c4_i32_108 : BitVec 32 := 4#32
  let c0_i32_109 : BitVec 32 := 0#32
  let v160 : BitVec 1 := Scalar.cmpi .eq c4_i32_108 c0_i32_109
  let c1_i32_110 : BitVec 32 := 1#32
  let v161 : BitVec 32 := Scalar.select v160 c1_i32_110 c4_i32_108
  let v162 : BitVec 32 := Scalar.remsi v159 v161
  let c0_i32_112 : BitVec 32 := 0#32
  let v164 : BitVec 1 := Scalar.cmpi .slt v162 c0_i32_112
  let c0_i32_113 : BitVec 32 := 0#32
  let v165 : BitVec 1 := Scalar.cmpi .slt v161 c0_i32_113
  let v166 : BitVec 1 := Scalar.xori v164 v165
  let c0_i32_111 : BitVec 32 := 0#32
  let v163 : BitVec 1 := Scalar.cmpi .ne v162 c0_i32_111
  let v167 : BitVec 1 := Scalar.andi v166 v163
  let v168 : BitVec 32 := Scalar.addi v162 v161
  let v169 : BitVec 32 := Scalar.select v167 v168 v162
  let c1_i32_124 : BitVec 32 := 1#32
  let v183 : BitVec 32 := Scalar.muli v169 c1_i32_124
  let v184 : BitVec 32 := Scalar.addi c0_i32_125 v183
  v184.toNat
def k0_dev9 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_130 : BitVec 32 := 3#32
  let v193 : BitVec 32 := Scalar.addi v2 c3_i32_130
  let c4_i32_131 : BitVec 32 := 4#32
  let c0_i32_132 : BitVec 32 := 0#32
  let v194 : BitVec 1 := Scalar.cmpi .eq c4_i32_131 c0_i32_132
  let c1_i32_133 : BitVec 32 := 1#32
  let v195 : BitVec 32 := Scalar.select v194 c1_i32_133 c4_i32_131
  let v196 : BitVec 32 := Scalar.remsi v193 v195
  let c0_i32_135 : BitVec 32 := 0#32
  let v198 : BitVec 1 := Scalar.cmpi .slt v196 c0_i32_135
  let c0_i32_136 : BitVec 32 := 0#32
  let v199 : BitVec 1 := Scalar.cmpi .slt v195 c0_i32_136
  let v200 : BitVec 1 := Scalar.xori v198 v199
  let c0_i32_134 : BitVec 32 := 0#32
  let v197 : BitVec 1 := Scalar.cmpi .ne v196 c0_i32_134
  let v201 : BitVec 1 := Scalar.andi v200 v197
  let v202 : BitVec 32 := Scalar.addi v196 v195
  let v203 : BitVec 32 := Scalar.select v201 v202 v196
  let c1_i32_147 : BitVec 32 := 1#32
  let v217 : BitVec 32 := Scalar.muli v203 c1_i32_147
  let v218 : BitVec 32 := Scalar.addi c0_i32_148 v217
  v218.toNat
def k0_off3 (d0 : Dev nD) : Fin 2 → Nat :=
  let c0_154 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_153 : BitVec 32 := 512#32
  let v227 : BitVec 32 := Scalar.muli v2 c512_i32_153
  let v228 : Index := Scalar.indexCast v227
  ![0, v228.toNat]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v240 : BitVec 32 := Scalar.muli v2 c1024_i32
  let v241 : Index := Scalar.indexCast v240
  let c0_157 : Index := 0#32
  ![v241.toNat, 0]
def k0_off5 (d0 : Dev nD) (c1_i32_158 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v243 : BitVec 32 := Scalar.subi v2 c1_i32_158
  let c4_i32_159 : BitVec 32 := 4#32
  let c0_i32_160 : BitVec 32 := 0#32
  let v244 : BitVec 1 := Scalar.cmpi .eq c4_i32_159 c0_i32_160
  let c1_i32_161 : BitVec 32 := 1#32
  let v245 : BitVec 32 := Scalar.select v244 c1_i32_161 c4_i32_159
  let v246 : BitVec 32 := Scalar.remsi v243 v245
  let c0_i32_163 : BitVec 32 := 0#32
  let v248 : BitVec 1 := Scalar.cmpi .slt v246 c0_i32_163
  let c0_i32_164 : BitVec 32 := 0#32
  let v249 : BitVec 1 := Scalar.cmpi .slt v245 c0_i32_164
  let v250 : BitVec 1 := Scalar.xori v248 v249
  let c0_i32_162 : BitVec 32 := 0#32
  let v247 : BitVec 1 := Scalar.cmpi .ne v246 c0_i32_162
  let v251 : BitVec 1 := Scalar.andi v250 v247
  let v252 : BitVec 32 := Scalar.addi v246 v245
  let v253 : BitVec 32 := Scalar.select v251 v252 v246
  let c1024_i32_178 : BitVec 32 := 1024#32
  let v267 : BitVec 32 := Scalar.muli v253 c1024_i32_178
  let v268 : Index := Scalar.indexCast v267
  let c0_179 : Index := 0#32
  ![v268.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S4096x4096, .bf16⟩
  | .local _ .vmem, ⟨1, _⟩ => ⟨S4096x2048, .bf16⟩
  | .local _ .vmem, ⟨2, _⟩ => ⟨S4096x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Cells.lean ====
/-
The mesh, the semaphores and the pieces of the scratch buffers.

Four devices. Device `c` addresses the device one, two or three places on (`peer c h`, `h : Fin 3` meaning `h + 1` places).
Each device has thirteen semaphores it takes part with: the barrier semaphore, and for each distance one send and one
receive semaphore of each of the two exchanges — of the row maxima, and of the quantised blocks. The row buffer is
four rows, the two block buffers four slabs each; the transfers move one row or one slab.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueIdxCoords

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (three duties to a cell) -/

/-- The exchange's own resources, -/
abbrev UB : Type := URounds (GSem nD τ sig) (Fin 3)
/-- beside the pipeline's. -/
abbrev UU : Type := UR sig nD τ × UB

local notation "𝕄" => MT nD τ sig Unit (Elt F) ℕ UU ℕ

/-- Where the pipeline's resources lie, -/
abbrev EP : Emb (UR sig nD τ) (MT nD τ sig Unit (Elt F) ℕ UU ℕ) := embL
/-- and where the exchange's do. -/
abbrev ER : Emb UB (MT nD τ sig Unit (Elt F) ℕ UU ℕ) := embR

/-! ## The devices -/

set_option backward.proofsInPublic true in
/-- The device `k` places on. -/
def fwd (c : Dev nD) (k : ℕ) : Dev nD := ⟨(c.val + k) % 4, Nat.mod_lt _ (by decide)⟩
set_option backward.proofsInPublic true in
/-- The device `k` places back (`k ≤ 4`). -/
def back (c : Dev nD) (k : ℕ) : Dev nD := ⟨(c.val + (4 - k)) % 4, Nat.mod_lt _ (by decide)⟩
/-- The device `h + 1` places on, -/
abbrev peer (c : Dev nD) (h : Fin 3) : Dev nD := fwd c (h.val + 1)
/-- and back. -/
abbrev src (c : Dev nD) (h : Fin 3) : Dev nD := back c (h.val + 1)

/-- Going on and back by one distance is going nowhere; -/
theorem src_peer (c : Dev nD) (h : Fin 3) : src (peer c h) h = c := by revert c h; decide
/-- so is going back and on; -/
theorem peer_src (c : Dev nD) (h : Fin 3) : peer (src c h) h = c := by revert c h; decide
/-- and the opposite distance comes back to the start. -/
theorem peer_rev (c : Dev nD) (h : Fin 3) : peer (peer c h) h.rev = c := by revert c h; decide
/-- Back by the places gone on. -/
theorem back_fwd (c : Dev nD) (k : ℕ) (hk : k ≤ 4) : back (fwd c k) k = c := by
  apply Fin.ext; have : c.val < 4 := c.isLt; simp only [back, fwd]; omega
/-- No places back, -/
theorem back_zero (c : Dev nD) : back c 0 = c := by revert c; decide
/-- or on, is the device itself. -/
theorem fwd_zero (c : Dev nD) : fwd c 0 = c := by revert c; decide

/-- The device ring turned `h + 1` places. -/
def turn (h : Fin 3) : Dev nD ≃ Dev nD := ⟨fun c => peer c h, fun c => src c h, fun c => src_peer c h, fun c => peer_src c h⟩

/-- What each of the kernel's nine computations of a device's number gives: number 1 is the device one place on. -/
theorem dev1_eq (c : Dev nD) (h) : (⟨k0_dev1 c, h⟩ : Dev nD) = peer c 0 := by revert c; decide
/-- Number 2 is the device two places on. -/
theorem dev2_eq (c : Dev nD) (h) : (⟨k0_dev2 c, h⟩ : Dev nD) = peer c 1 := by revert c; decide
/-- Number 3 is the device three places on. -/
theorem dev3_eq (c : Dev nD) (h) : (⟨k0_dev3 c, h⟩ : Dev nD) = peer c 2 := by revert c; decide
/-- Number 4 is the device one place on. -/
theorem dev4_eq (c : Dev nD) (h) : (⟨k0_dev4 c, h⟩ : Dev nD) = peer c 0 := by revert c; decide
/-- Number 5 is the device two places on. -/
theorem dev5_eq (c : Dev nD) (h) : (⟨k0_dev5 c, h⟩ : Dev nD) = peer c 1 := by revert c; decide
/-- Number 6 is the device three places on. -/
theorem dev6_eq (c : Dev nD) (h) : (⟨k0_dev6 c, h⟩ : Dev nD) = peer c 2 := by revert c; decide
/-- Number 7 is the device one place on. -/
theorem dev7_eq (c : Dev nD) (h) : (⟨k0_dev7 c, h⟩ : Dev nD) = peer c 0 := by revert c; decide
/-- Number 8 is the device two places on. -/
theorem dev8_eq (c : Dev nD) (h) : (⟨k0_dev8 c, h⟩ : Dev nD) = peer c 1 := by revert c; decide
/-- Number 9 is the device three places on. -/
theorem dev9_eq (c : Dev nD) (h) : (⟨k0_dev9 c, h⟩ : Dev nD) = peer c 2 := by revert c; decide

/-- The block of the product meant for the device one place on starts here, -/
theorem off2_eq1 (c : Dev nD) : k0_off2 c 1#32 = ![0, 512 * (fwd c 1).val] := by revert c; decide
/-- the one for two places on here, -/
theorem off2_eq2 (c : Dev nD) : k0_off2 c 2#32 = ![0, 512 * (fwd c 2).val] := by revert c; decide
/-- and the one for three places on here. -/
theorem off2_eq3 (c : Dev nD) : k0_off2 c 3#32 = ![0, 512 * (fwd c 3).val] := by revert c; decide
/-- The rows of the result from the device one place back start here, -/
theorem off5_eq1 (c : Dev nD) : k0_off5 c 1#32 = ![1024 * (back c 1).val, 0] := by revert c; decide
/-- those from two places back here, -/
theorem off5_eq2 (c : Dev nD) : k0_off5 c 2#32 = ![1024 * (back c 2).val, 0] := by revert c; decide
/-- and those from three places back here. -/
theorem off5_eq3 (c : Dev nD) : k0_off5 c 3#32 = ![1024 * (back c 3).val, 0] := by revert c; decide

/-! ## The buffers, their rows and slabs -/

/-- The product buffer, -/
abbrev yM : Memref sig .tc .vmem S1024x2048 .f32 := Memref.whole cc0_scratch0
/-- the row buffer, -/
abbrev aM : Memref sig .tc .vmem S4x128 .f32 := Memref.whole cc0_scratch1
/-- the blocks sent, -/
abbrev sM : Memref sig .tc .vmem S4x1024x512 .fp8e4m3 := Memref.whole cc0_scratch2
/-- the blocks received. -/
abbrev rM : Memref sig .tc .vmem S4x1024x512 .fp8e4m3 := Memref.whole cc0_scratch3

/-- One row of the row buffer, as the transfers name it, -/
abbrev aRow (n : ℕ) (inb : ∀ a, (![n, 0] : Fin 2 → Nat) a + S1x128.size a ≤ S4x128.size a) : Memref sig .tc .vmem S128 .f32 :=
  (aM.slice (Rect.unit (s := S4x128) ![n, 0] S1x128.size inb) (fun _ => rfl)).squeeze S128 squeezes_S1x128_S128
/-- and one slab of a block buffer. -/
abbrev sSlab (n : ℕ) (inb : ∀ a, (![n, 0, 0] : Fin 3 → Nat) a + S1x1024x512.size a ≤ S4x1024x512.size a) : Memref sig .tc .vmem S1024x512 .fp8e4m3 :=
  (sM.slice (Rect.unit (s := S4x1024x512) ![n, 0, 0] S1x1024x512.size inb) (fun _ => rfl)).squeeze S1024x512 squeezes_S1x1024x512_S1024x512
/-- The same of the blocks received. -/
abbrev rSlab (n : ℕ) (inb : ∀ a, (![n, 0, 0] : Fin 3 → Nat) a + S1x1024x512.size a ≤ S4x1024x512.size a) : Memref sig .tc .vmem S1024x512 .fp8e4m3 :=
  (rM.slice (Rect.unit (s := S4x1024x512) ![n, 0, 0] S1x1024x512.size inb) (fun _ => rfl)).squeeze S1024x512 squeezes_S1x1024x512_S1024x512

/-- The elements of row `n`, -/
def rowSet (n : ℕ) : Finset S4x128.Idx := Finset.univ.filter fun i => (i 0).val = n
/-- and of slab `n`. -/
def slabSet (n : ℕ) : Finset S4x1024x512.Idx := Finset.univ.filter fun i => (i 0).val = n

/-- An element is in row `n` by its first coordinate, -/
theorem mem_rowSet {n : ℕ} {i : S4x128.Idx} : i ∈ rowSet n ↔ (i 0).val = n := by simp [rowSet]
/-- and in slab `n` likewise. -/
theorem mem_slabSet {n : ℕ} {i : S4x1024x512.Idx} : i ∈ slabSet n ↔ (i 0).val = n := by simp [slabSet]

/-- The rectangle of row `n` is its elements, -/
theorem row_rect (n : ℕ) (inb : ∀ a, (![n, 0] : Fin 2 → Nat) a + S1x128.size a ≤ S4x128.size a) :
    (Rect.unit (s := S4x128) ![n, 0] S1x128.size inb).set = rowSet n := by
  ext i
  rw [Rect.mem_set_unit, mem_rowSet]
  have h1 : (i 1).val < 128 := (i 1).isLt
  constructor
  · intro h; have h0 := h 0; simp at h0; omega
  · intro h a; fin_cases a
    · simp; omega
    · simp; exact h1

/-- as is the one of slab `n`. -/
theorem slab_rect (n : ℕ) (inb : ∀ a, (![n, 0, 0] : Fin 3 → Nat) a + S1x1024x512.size a ≤ S4x1024x512.size a) :
    (Rect.unit (s := S4x1024x512) ![n, 0, 0] S1x1024x512.size inb).set = slabSet n := by
  ext i
  rw [Rect.mem_set_unit, mem_slabSet]
  have h1 : (i 1).val < 1024 := (i 1).isLt
  have h2 : (i 2).val < 512 := (i 2).isLt
  constructor
  · intro h; have h0 := h 0; simp at h0; omega
  · intro h a; fin_cases a
    · simp; omega
    · simp; exact h1
    · simp; exact h2

/-- The row a transfer names is the row's elements, -/
theorem aRow_set (n : ℕ) (inb) : (aRow n inb).view.set = rowSet n := by
  show ((View.whole cc0_scratch1).slice _ |>.reshape _ _).set = _
  rw [View.set_reshape, View.set_slice_whole]; exact row_rect n inb
/-- so is the slab sent, -/
theorem sSlab_set (n : ℕ) (inb) : (sSlab n inb).view.set = slabSet n := by
  show ((View.whole cc0_scratch2).slice _ |>.reshape _ _).set = _
  rw [View.set_reshape, View.set_slice_whole]; exact slab_rect n inb
/-- and the slab received. -/
theorem rSlab_set (n : ℕ) (inb) : (rSlab n inb).view.set = slabSet n := by
  show ((View.whole cc0_scratch3).slice _ |>.reshape _ _).set = _
  rw [View.set_reshape, View.set_slice_whole]; exact slab_rect n inb

/-! ## The semaphores -/

/-- The runtime's barrier semaphore. -/
abbrev barS : Sem sig := (SemArray.scalar (sig.barrier 0 rfl) : Sems sig S_).sem

/-- The semaphore of an array of four for distance one, -/
abbrev sem1 (a : DmaSems sig S4) : DmaSem sig := ((a.slice (Rect.unit (s := S4) ![1] S1.size inb_S4_S1_1)).squeeze S_ squeezes_S1_S_).sem
/-- for distance two, -/
abbrev sem2 (a : DmaSems sig S4) : DmaSem sig := ((a.slice (Rect.unit (s := S4) ![2] S1.size inb_S4_S1_2)).squeeze S_ squeezes_S1_S_).sem
/-- for distance three. -/
abbrev sem3 (a : DmaSems sig S4) : DmaSem sig := ((a.slice (Rect.unit (s := S4) ![3] S1.size inb_S4_S1_3)).squeeze S_ squeezes_S1_S_).sem
/-- Entry `h + 1` of a semaphore array. -/
abbrev semAt (a : DmaSems sig S4) : Fin 3 → DmaSem sig := fun | 0 => sem1 a | 1 => sem2 a | 2 => sem3 a

/-- A semaphore taking part: the barrier (`none`), or a kind — row sent, row received, block sent, block received — and a distance. -/
abbrev Ck : Type := Option (Fin 4 × Fin 3)

/-- The semaphore of each kind and distance, -/
abbrev dsem : Fin 4 → Fin 3 → DmaSem sig := fun
  | 0 => semAt cc0_scratch4 | 1 => semAt cc0_scratch5 | 2 => semAt cc0_scratch6 | 3 => semAt cc0_scratch7
/-- and of each of a device's cells. -/
abbrev csem : Ck → SemLoc sig := fun | none => .reg barS | some (k, h) => .dma (dsem k h)

set_option backward.proofsInPublic true in
/-- Which of them the DMA semaphore at index `n` is. -/
def ckD (n : ℕ) : Option Ck :=
  if 4 ≤ n ∧ n % 4 ≠ 0 then some (some (⟨(n - 4) / 4 % 4, Nat.mod_lt _ (by decide)⟩, ⟨(n - 1) % 4 % 3, Nat.mod_lt _ (by decide)⟩)) else none
/-- Which of them a semaphore is. -/
def ck : SemLoc sig → Option Ck
  | .reg _ => some none
  | .dma s => ckD s.val

/-- The number of each transfer's semaphore. -/
theorem dsem_val (k : Fin 4) (h : Fin 3) : (dsem k h).val = 4 + 4 * k.val + 1 + h.val := by
  fin_cases k <;> fin_cases h <;> decide

/-- A cell is found again from its semaphore, -/
theorem ck_csem (k : Ck) : ck (csem k) = some k := by
  rcases k with _ | ⟨k, h⟩
  · rfl
  · show ckD (dsem k h).val = _
    rw [dsem_val]; revert k h; decide

/-- so no two cells share one. -/
theorem csem_injective : Function.Injective csem := fun a b h => by
  have := ck_csem a; rw [h, ck_csem b] at this; exact (Option.some.inj this).symm

/-- Semaphore `k` of device `c`. -/
abbrev cell (c : Dev nD) (k : Ck) : GSem nD τ sig := ((c : Thread nD τ), csem k)
/-- The cell of a device and a name, -/
abbrev kcell (x : Dev nD × Ck) : GSem nD τ sig := cell x.1 x.2
/-- of its barrier, -/
abbrev barCell (c : Dev nD) : GSem nD τ sig := cell c none
/-- of one of its transfers. -/
abbrev dcell (k : Fin 4) (c : Dev nD) (h : Fin 3) : GSem nD τ sig := cell c (some (k, h))

/-- No two of these are the same. -/
theorem kcell_injective : Function.Injective kcell := by
  rintro ⟨c, k⟩ ⟨c', k'⟩ h
  have h1 : c = c' := congrArg (fun g : GSem nD τ sig => g.1.1) h
  subst h1
  have h2 : k = k' := csem_injective (congrArg Prod.snd h)
  rw [h2]

/-- The credit one row's transfer brings, -/
abbrev NA : ℕ := (aRow 1 inb_S4x128_S1x128_1_0).view.dmaCredit
/-- and one slab's. -/
abbrev NB : ℕ := (rSlab 1 inb_S4x1024x512_S1x1024x512_1_0_0).view.dmaCredit
/-- A row is worth something, -/
theorem NA_pos : 0 < NA := View.dmaCredit_pos _ (by decide)
/-- so is a block, -/
theorem NB_pos : 0 < NB := View.dmaCredit_pos _ (by decide)
/-- and every slab is worth the same. -/
theorem sSlab_credit (n : ℕ) (inb) : (sSlab n inb).view.dmaCredit = NB := rfl

end Cert.Exchange

end
-- ==== Proof.Contents.lean ====
/-
What the buffers hold: each device's block product, its row maxima, the quantised blocks it sends and receives, and the
scaled result; and that the loads, stores and transfers of the kernel read and leave exactly these.
-/
module

public import proofs.«01_k».proof.Proof.Cells
public import proofs.«01_k».proof.Proof.Gen.KernelIdeal.Frame

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx (ix2 ix3)

variable {F : FTy → Type} [FloatOps F]

local notation "𝕄" => MT nD τ sig Unit (Elt F) ℕ UU ℕ

variable (m : (ℓ : Loc nD τ sig) → Buf (Elt F) ℓ)

/-! ## The contents -/

set_option backward.proofsInPublic true in
/-- Grid point `j`. -/
def tk (j : ℕ) : Fin cfg0.N := ⟨j % 4, by rw [show cfg0.N = 4 from N_0]; exact Nat.mod_lt _ (by decide)⟩

/-- Device `c`'s rows of `x`, -/
def xb (c : Dev nD) : Vec F S1024x4096 .bf16 := iblk m c 0 (tk 0)
/-- and column block `j` of its `w`. -/
def wb (c : Dev nD) (j : ℕ) : Vec F S4096x512 .bf16 := iblk m c 1 (tk j)
/-- Column block `j` of device `c`'s product. -/
def yblk (c : Dev nD) (j : ℕ) : Vec F S1024x512 .f32 := k0_pay2 (xb m c) (wb m c j)
/-- The row of running maxima after point `t`. -/
def rowMax (c : Dev nD) : ℕ → Vec F S1x128 .f32
  | 0 => k0_pay4 (xb m c) (wb m c 0)
  | t + 1 => k0_pay5 (xb m c) (wb m c (t + 1)) (rowMax c t)
/-- The product buffer when every column block is stored. -/
def yAll (c : Dev nD) : Vec F S1024x2048 .f32 := fun i =>
  yblk m c ((i 1).val / 512) (ix2 (i 0) ⟨(i 1).val % 512, Nat.mod_lt _ (by decide)⟩)
/-- The row buffer when every row is in: row `n` is the maxima of the device `n` places back. -/
def ab (c : Dev nD) : Vec F S4x128 .f32 := fun i => rowMax m (back c (i 0).val) 3 (ix2 0 (i 1))
/-- The quantised column block `p` of device `c`'s product. -/
def qb (c : Dev nD) (p : Dev nD) : Vec F S1x1024x512 .fp8e4m3 := k0_pay9 (k0_pay8 (ab m c)) (yblk m c p.val)
/-- The blocks sent: slab `n` goes to the device `n` places on. -/
def sAll (c : Dev nD) : Vec F S4x1024x512 .fp8e4m3 := fun i => qb m c (fwd c (i 0).val) (ix3 0 (i 1) (i 2))
/-- The blocks received: slab `n` is from the device `n` places back. -/
def rAll (c : Dev nD) : Vec F S4x1024x512 .fp8e4m3 := fun i => qb m (back c (i 0).val) c (ix3 0 (i 1) (i 2))
/-- Row block `p` of device `c`'s result: its own block quantised and scaled in place, or the block received from `p` scaled. -/
def outBlk (c p : Dev nD) : Vec F S1024x512 .f32 :=
  if p = c then k0_pay13 (k0_pay7 (ab m c)) (yblk m c c.val) (k0_pay12 (k0_pay8 (ab m c)))
  else k0_pay16 (k0_pay7 (ab m c)) (qb m p c)
set_option backward.proofsInPublic true in
/-- The row block a row of the result lies in. -/
def rowDev (r : ℕ) : Dev nD := ⟨r / 1024 % 4, Nat.mod_lt _ (by decide)⟩
/-- Device `c`'s result. -/
def outAll (c : Dev nD) : Vec F S4096x512 .f32 := fun i =>
  outBlk m c (rowDev (i 0).val) (ix2 ⟨(i 0).val % 1024, Nat.mod_lt _ (by decide)⟩ (i 1))

/-! ## Writing and reading a rectangle of a whole buffer -/

section Rects
omit [FloatOps F]
variable {κ : Kind} (b : Ref sig κ) (r : Rect b.ty.shape)

/-- A store of `g`'s values on a rectangle leaves `g` there, -/
theorem write_mem (f : b.ty.Contents (Elt F)) (w : r.shape.Idx → Elt F b.ty.elt) (g : b.ty.Contents (Elt F))
    (hw : ∀ z, w z = g (r.emb z)) {i : b.ty.shape.Idx} (hi : i ∈ r.set) :
    ((Memref.whole b : Memref sig κ _ _ _).access r : View sig κ _ _ _).write (Elt F) f w Finset.univ i = g i := by
  rw [← Rect.map_emb_univ, Finset.mem_map] at hi
  obtain ⟨z, -, rfl⟩ := hi
  have h := View.write_emb_of_mem (v := ((Memref.whole b : Memref sig κ _ _ _).access r : View sig κ _ _ _)) (Val := Elt F) f w
    (M := Finset.univ) (x := z) (Finset.mem_univ _)
  refine Eq.trans h ?_
  exact hw z

/-- and elsewhere what was there. -/
theorem write_not_mem (f : b.ty.Contents (Elt F)) (w : r.shape.Idx → Elt F b.ty.elt) {i : b.ty.shape.Idx} (hi : i ∉ r.set) :
    ((Memref.whole b : Memref sig κ _ _ _).access r : View sig κ _ _ _).write (Elt F) f w Finset.univ i = f i := by
  refine View.write_of_not_mem (v := ((Memref.whole b : Memref sig κ _ _ _).access r : View sig κ _ _ _)) (Val := Elt F) f w _ fun h => hi ?_
  rw [View.setOn_univ] at h
  have : ((View.whole b).slice r).set = r.set := View.set_slice_whole b r
  rw [← this]; exact h

end Rects

/-! ## The product buffer -/

/-- The columns of a block in the product buffer. -/
abbrev yRect (n : ℕ) (inb : ∀ a, (![0, n] : Fin 2 → Nat) a + S1024x512.size a ≤ S1024x2048.size a) : Rect S1024x2048 :=
  Rect.unit (s := S1024x2048) ![0, n] S1024x512.size inb

/-- An element is among them by its column. -/
theorem mem_yRect (n : ℕ) (inb) (i : S1024x2048.Idx) : i ∈ (yRect n inb).set ↔ n ≤ (i 1).val ∧ (i 1).val < n + 512 := by
  rw [Rect.mem_set_unit]
  have h0 : (i 0).val < 1024 := (i 0).isLt
  constructor
  · intro h; have h1 := h 1; simp at h1; omega
  · intro h a; fin_cases a
    · simp; omega
    · simp; omega

/-- Column block `j` of the whole product is the block. -/
theorem yAll_emb (c : Dev nD) (j : ℕ) (hj : j < 4) (inb) (z : S1024x512.Idx) :
    yAll m c ((yRect (512 * j) inb).emb z) = yblk m c j z := by
  have h1 : (z 1).val < 512 := (z 1).isLt
  have e0 : ((yRect (512 * j) inb).emb z) 0 = z 0 := Fin.ext (by rw [Rect.emb_apply]; simp)
  have e1 : (((yRect (512 * j) inb).emb z) 1).val = 512 * j + (z 1).val := by rw [Rect.emb_apply]; simp
  unfold yAll
  have hd : (((yRect (512 * j) inb).emb z) 1).val / 512 = j := by rw [e1]; omega
  rw [hd]
  congr 1
  funext a; fin_cases a
  · exact e0
  · apply Fin.ext; show (((yRect (512 * j) inb).emb z) 1).val % 512 = (z 1).val; rw [e1]; omega

/-- The stored product buffer: right on the first `512 * t` columns. -/
def YUpTo (c : Dev nD) (t : ℕ) (f : Vec F S1024x2048 .f32) : Prop := ∀ i : S1024x2048.Idx, (i 1).val < 512 * t → f i = yAll m c i

/-- Storing column block `j` extends what is right by a block. -/
theorem yUpTo_store (c : Dev nD) (j : ℕ) (hj : j < 4) (off : Fin 2 → ℕ) (inb) (hoff : off = ![0, 512 * j]) (f : Vec F S1024x2048 .f32) (hf : YUpTo m c j f) :
    YUpTo m c (j + 1) ((yM.access (Rect.unit (s := S1024x2048) off S1024x512.size inb) : View sig .tc _ _ _).write (Elt F) f (yblk m c j) Finset.univ) := by
  subst hoff
  intro i hi
  by_cases h : 512 * j ≤ (i 1).val
  · exact write_mem cc0_scratch0 (yRect (512 * j) inb) f (yblk m c j) (yAll m c) (fun z => (yAll_emb m c j hj inb z).symm)
      ((mem_yRect _ inb i).mpr ⟨h, by omega⟩)
  · refine (write_not_mem cc0_scratch0 (yRect (512 * j) inb) f (yblk m c j) (fun hm => h ((mem_yRect _ inb i).mp hm).1)).trans ?_
    exact hf i (by omega)

/-- Four blocks stored are all of it. -/
theorem yUpTo_all (c : Dev nD) (f : Vec F S1024x2048 .f32) (hf : YUpTo m c 4 f) : f = yAll m c :=
  funext fun i => hf i (by have : (i 1).val < 2048 := (i 1).isLt; omega)

/-- A load of column block `j` reads that block. -/
theorem read_yAll (c : Dev nD) (j : ℕ) (hj : j < 4) (off : Fin 2 → ℕ) (inb) (hoff : off = ![0, 512 * j]) :
    yM.view.readAt (Elt F) (Rect.unit (s := S1024x2048) off S1024x512.size inb).toLoadRect (yAll m c) = yblk m c j := by
  subst hoff
  funext z
  exact yAll_emb m c j hj inb z

/-! ## The row buffer -/

/-- The row buffer with every row the same: what row 0 holds of `v`. -/
def rowOf (v : Vec F S1x128 .f32) : Vec F S4x128 .f32 := fun i => v (ix2 0 (i 1))

/-- Row `n` of the row buffer. -/
abbrev aRect (n : ℕ) (inb : ∀ a, (![n, 0] : Fin 2 → Nat) a + S1x128.size a ≤ S4x128.size a) : Rect S4x128 := Rect.unit (s := S4x128) ![n, 0] S1x128.size inb

/-- Its elements lie in row `n`, -/
theorem aRect_emb0 (n : ℕ) (inb) (z : S1x128.Idx) : (((aRect n inb).emb z) 0).val = n := by
  have : (z 0).val < 1 := (z 0).isLt
  rw [Rect.emb_apply]; simp; omega
/-- at their own column. -/
theorem aRect_emb1 (n : ℕ) (inb) (z : S1x128.Idx) : ((aRect n inb).emb z) 1 = z 1 := Fin.ext (by rw [Rect.emb_apply]; simp)
/-- An element of a single row is given by its column. -/
theorem ix2_self (z : S1x128.Idx) : (ix2 0 (z 1) : S1x128.Idx) = z := by
  funext a; fin_cases a
  · apply Fin.ext; have : (z 0).val < 1 := (z 0).isLt; show 0 = (z 0).val; omega
  · rfl

omit [FloatOps F] in
/-- A row written everywhere is that row. -/
theorem rowOf_emb (v : Vec F S1x128 .f32) (n : ℕ) (inb) (z : S1x128.Idx) : rowOf v ((aRect n inb).emb z) = v z := by
  unfold rowOf; rw [aRect_emb1, ix2_self]

omit [FloatOps F] in
/-- Storing `v` as row 0 leaves it there; -/
theorem write_row0 (f : Vec F S4x128 .f32) (v : Vec F S1x128 .f32) (inb) (i : S4x128.Idx) (hi : i ∈ rowSet 0) :
    (aM.access (aRect 0 inb) : View sig .tc _ _ _).write (Elt F) f v Finset.univ i = rowOf v i :=
  write_mem cc0_scratch1 (aRect 0 inb) f v (rowOf v) (fun z => (rowOf_emb v 0 inb z).symm) (by rw [row_rect]; exact hi)
omit [FloatOps F] in
/-- and a load of row 0 reads it. -/
theorem read_row0 (v : Vec F S1x128 .f32) (inb) : aM.view.readAt (Elt F) (aRect 0 inb).toLoadRect (rowOf v) = v :=
  funext fun z => rowOf_emb v 0 inb z

/-- Row 0 of the full row buffer is the device's own maxima. -/
theorem rowOf_ab (c : Dev nD) (i : S4x128.Idx) (hi : i ∈ rowSet 0) : rowOf (rowMax m c 3) i = ab m c i := by
  unfold rowOf ab; rw [mem_rowSet.mp hi, back_zero]

/-- A row sent `n` places on arrives as row `n` of that device's full row buffer. -/
theorem land_row (c : Dev nD) (n : ℕ) (hn : n < 4) (inb inb0) (fd : Vec F S4x128 .f32) (i : S4x128.Idx) (hi : i ∈ rowSet n) :
    (aRow n inb).view.write (Elt F) fd ((aRow 0 inb0).view.read (Elt F) (ab m c)) Finset.univ i = ab m (fwd c n) i := by
  rw [← aRow_set n inb] at hi
  obtain ⟨z, -, rfl⟩ := Finset.mem_map.mp hi
  refine Eq.trans (View.write_emb_of_mem (v := (aRow n inb).view) (Val := Elt F) fd _ (M := Finset.univ) (x := z) (Finset.mem_univ _)) ?_
  show ab m c ((aRow 0 inb0).view.emb z) = ab m (fwd c n) ((aRow n inb).view.emb z)
  let z' : S1x128.Idx := Shape.reshapeEquiv (s := S1x128) (s' := S128) (by decide) z
  show ab m c ((aRect 0 inb0).emb z') = ab m (fwd c n) ((aRect n inb).emb z')
  unfold ab
  rw [aRect_emb0, aRect_emb0, aRect_emb1, aRect_emb1, back_zero, back_fwd c n (by omega)]

/-! ## The block buffers -/

/-- Slab `n` of a block buffer. -/
abbrev bRect (n : ℕ) (inb : ∀ a, (![n, 0, 0] : Fin 3 → Nat) a + S1x1024x512.size a ≤ S4x1024x512.size a) : Rect S4x1024x512 :=
  Rect.unit (s := S4x1024x512) ![n, 0, 0] S1x1024x512.size inb

/-- Its elements lie in slab `n`, -/
theorem bRect_emb0 (n : ℕ) (inb) (z : S1x1024x512.Idx) : (((bRect n inb).emb z) 0).val = n := by
  have : (z 0).val < 1 := (z 0).isLt
  rw [Rect.emb_apply]; simp; omega
/-- at their own row -/
theorem bRect_emb1 (n : ℕ) (inb) (z : S1x1024x512.Idx) : ((bRect n inb).emb z) 1 = z 1 := Fin.ext (by rw [Rect.emb_apply]; simp)
/-- and column. -/
theorem bRect_emb2 (n : ℕ) (inb) (z : S1x1024x512.Idx) : ((bRect n inb).emb z) 2 = z 2 := Fin.ext (by rw [Rect.emb_apply]; simp)
/-- An element of a single slab is given by its row and column. -/
theorem ix3_self (z : S1x1024x512.Idx) : (ix3 0 (z 1) (z 2) : S1x1024x512.Idx) = z := by
  funext a; fin_cases a
  · apply Fin.ext; have : (z 0).val < 1 := (z 0).isLt; show 0 = (z 0).val; omega
  · rfl
  · rfl

/-- Slab `n` of the blocks sent is the block for the device `n` places on; -/
theorem sAll_emb (c : Dev nD) (n : ℕ) (inb) (z : S1x1024x512.Idx) : sAll m c ((bRect n inb).emb z) = qb m c (fwd c n) z := by
  unfold sAll; rw [bRect_emb0, bRect_emb1, bRect_emb2, ix3_self]
/-- slab `n` of the blocks received is the one from `n` places back. -/
theorem rAll_emb (c : Dev nD) (n : ℕ) (inb) (z : S1x1024x512.Idx) : rAll m c ((bRect n inb).emb z) = qb m (back c n) c z := by
  unfold rAll; rw [bRect_emb0, bRect_emb1, bRect_emb2, ix3_self]

/-- Storing the block for the device `n` places on as slab `n`; -/
theorem write_slab (c : Dev nD) (n : ℕ) (inb) (f : Vec F S4x1024x512 .fp8e4m3) (i : S4x1024x512.Idx) (hi : i ∈ slabSet n) :
    (sM.access (bRect n inb) : View sig .tc _ _ _).write (Elt F) f (qb m c (fwd c n)) Finset.univ i = sAll m c i :=
  write_mem cc0_scratch2 (bRect n inb) f (qb m c (fwd c n)) (sAll m c) (fun z => (sAll_emb m c n inb z).symm) (by rw [slab_rect]; exact hi)
/-- a load of slab `n` received reads the block from the device `n` places back; -/
theorem read_slab (c : Dev nD) (n : ℕ) (inb) : rM.view.readAt (Elt F) (bRect n inb).toLoadRect (rAll m c) = qb m (back c n) c :=
  funext fun z => rAll_emb m c n inb z
/-- and slab `n` sent `n` places on arrives as slab `n` received. -/
theorem land_slab (c : Dev nD) (n : ℕ) (hn : n < 4) (inb inb') (fd : Vec F S4x1024x512 .fp8e4m3) (i : S4x1024x512.Idx) (hi : i ∈ slabSet n) :
    (rSlab n inb).view.write (Elt F) fd ((sSlab n inb').view.read (Elt F) (sAll m c)) Finset.univ i = rAll m (fwd c n) i := by
  rw [← rSlab_set n inb] at hi
  obtain ⟨z, -, rfl⟩ := Finset.mem_map.mp hi
  refine Eq.trans (View.write_emb_of_mem (v := (rSlab n inb).view) (Val := Elt F) fd _ (M := Finset.univ) (x := z) (Finset.mem_univ _)) ?_
  show sAll m c ((sSlab n inb').view.emb z) = rAll m (fwd c n) ((rSlab n inb).view.emb z)
  let z' : S1x1024x512.Idx := Shape.reshapeEquiv (s := S1x1024x512) (s' := S1024x512) (by decide) z
  show sAll m c ((bRect n inb').emb z') = rAll m (fwd c n) ((bRect n inb).emb z')
  rw [sAll_emb, rAll_emb, back_fwd c n (by omega)]

/-! ## The result -/

/-- The rows of a block in the result. -/
abbrev oRect (n : ℕ) (inb : ∀ a, (![n, 0] : Fin 2 → Nat) a + S1024x512.size a ≤ S4096x512.size a) : Rect S4096x512 :=
  Rect.unit (s := S4096x512) ![n, 0] S1024x512.size inb

/-- The staging buffer of the result. -/
abbrev oM : Memref sig .tc .vmem S4096x512 .f32 := Memref.whole cc0_stg2_0

/-- An element is among the block's rows by its row. -/
theorem mem_oRect (n : ℕ) (inb) (i : S4096x512.Idx) : i ∈ (oRect n inb).set ↔ n ≤ (i 0).val ∧ (i 0).val < n + 1024 := by
  rw [Rect.mem_set_unit]
  have h0 : (i 1).val < 512 := (i 1).isLt
  constructor
  · intro h; have h1 := h 0; simp at h1; omega
  · intro h a; fin_cases a
    · simp; omega
    · simp; omega

/-- Row block `p` of the whole result is the block. -/
theorem outAll_emb (c p : Dev nD) (inb) (z : S1024x512.Idx) : outAll m c ((oRect (1024 * p.val) inb).emb z) = outBlk m c p z := by
  have h0 : (z 0).val < 1024 := (z 0).isLt
  have hp : p.val < 4 := p.isLt
  have e0 : (((oRect (1024 * p.val) inb).emb z) 0).val = 1024 * p.val + (z 0).val := by rw [Rect.emb_apply]; simp
  have e1 : ((oRect (1024 * p.val) inb).emb z) 1 = z 1 := Fin.ext (by rw [Rect.emb_apply]; simp)
  unfold outAll
  have hd : rowDev (((oRect (1024 * p.val) inb).emb z) 0).val = p := Fin.ext (by rw [e0]; simp only [rowDev]; omega)
  rw [hd]
  congr 1
  funext a; fin_cases a
  · apply Fin.ext; show (((oRect (1024 * p.val) inb).emb z) 0).val % 1024 = (z 0).val; rw [e0]; omega
  · exact e1

/-- The result buffer right on the row blocks of the devices in `S`. -/
def OAt (c : Dev nD) (S : Finset (Dev nD)) (f : Vec F S4096x512 .f32) : Prop := ∀ i : S4096x512.Idx, rowDev (i 0).val ∈ S → f i = outAll m c i

/-- Storing one more row block makes it right too. -/
theorem oAt_store (c p : Dev nD) (S : Finset (Dev nD)) (off : Fin 2 → ℕ) (inb) (hoff : off = ![1024 * p.val, 0]) (f : Vec F S4096x512 .f32) (hf : OAt m c S f)
    (v : Vec F S1024x512 .f32) (hv : v = outBlk m c p) :
    OAt m c (insert p S) ((oM.access (Rect.unit (s := S4096x512) off S1024x512.size inb) : View sig .tc _ _ _).write (Elt F) f v Finset.univ) := by
  subst hoff hv
  intro i hi
  have h0 : (i 0).val < 4096 := (i 0).isLt
  have hp : p.val < 4 := p.isLt
  by_cases h : rowDev (i 0).val = p
  · have hv : (i 0).val / 1024 % 4 = p.val := congrArg Fin.val h
    exact write_mem cc0_stg2_0 (oRect (1024 * p.val) inb) f (outBlk m c p) (outAll m c) (fun z => (outAll_emb m c p inb z).symm)
      ((mem_oRect _ inb i).mpr ⟨by omega, by omega⟩)
  · refine (write_not_mem cc0_stg2_0 (oRect (1024 * p.val) inb) f (outBlk m c p) (fun hm => h ?_)).trans ?_
    · have := (mem_oRect _ inb i).mp hm
      exact Fin.ext (by simp only [rowDev]; omega)
    · exact hf i ((Finset.mem_insert.mp hi).resolve_left h)

/-- At first nothing need be right; -/
theorem oAt_empty (c : Dev nD) (f : Vec F S4096x512 .f32) : OAt m c ∅ f := fun i hi => absurd hi (Finset.notMem_empty _)

/-- with all four blocks stored the result is whole. -/
theorem oAt_all (c : Dev nD) (f : Vec F S4096x512 .f32) (hf : OAt m c (insert (back c 2) (insert (back c 3) (insert (back c 1) (insert c ∅)))) f) : f = outAll m c :=
  funext fun i => hf i (by generalize rowDev (i 0).val = p; clear hf; revert c p; decide)

end Cert.Exchange

end
-- ==== Proof.Sched.lean ====
/-
Who pays whom. Every semaphore has one round. Device `c`'s barrier semaphore is raised once by each other device, and the
raise hands `c` that device's landing places: the row and the slab `c` will send to. A receive semaphore's payment
is the landed row or slab, a send semaphore's the part of the source it had lent. What a device owes, listed in the
order it pays it; and the order in which the semaphores are waited for.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Pieces of the buffers, held -/

/-- Row `n` of device `c`'s row buffer, -/
def aPts (c : Dev nD) (n : ℕ) (q : PosShare TreeShare) (f : Vec F S4x128 .f32) : sProp 𝕄 := ((c : Thread nD τ).loc cc0_scratch1) ↦[rowSet n]{q} f
/-- slab `n` of its outgoing blocks -/
def sPts (c : Dev nD) (n : ℕ) (f : Vec F S4x1024x512 .fp8e4m3) : sProp 𝕄 := ((c : Thread nD τ).loc cc0_scratch2) ↦[slabSet n]{fullShare} f
/-- and of its incoming ones. -/
def rPts (c : Dev nD) (n : ℕ) (f : Vec F S4x1024x512 .fp8e4m3) : sProp 𝕄 := ((c : Thread nD τ).loc cc0_scratch3) ↦[slabSet n]{fullShare} f

/-- The share of row 0 lent to the transfer `h + 1` places on, -/
def lent : Fin 3 → PosShare TreeShare := fun | 0 => fullShare.left | 1 => fullShare.right.left | 2 => fullShare.right.right.left
/-- and the share kept. -/
def kept : PosShare TreeShare := fullShare.right.right.right

omit [FloatOps F] in
/-- Rows may be handed over through a cell, -/
instance aPts_storable (c : Dev nD) (n q f) : BI.Storable (upEmb : UEmb _ 𝕄) (aPts (F := F) c n q f) := by unfold aPts; infer_instance
omit [FloatOps F] in
/-- so may slabs sent -/
instance sPts_storable (c : Dev nD) (n f) : BI.Storable (upEmb : UEmb _ 𝕄) (sPts (F := F) c n f) := by unfold sPts; infer_instance
omit [FloatOps F] in
/-- and slabs received. -/
instance rPts_storable (c : Dev nD) (n f) : BI.Storable (upEmb : UEmb _ 𝕄) (rPts (F := F) c n f) := by unfold rPts; infer_instance

/-! ## The schedule -/

/-- What the raise of the barrier of `c` by the device `e + 1` places on hands over: its landing row and slab for `c`. -/
def barPay (c : Dev nD) (e : Fin 3) : sProp 𝕄 :=
  iprop((∃ f, aPts (F := F) (peer c e) (e.val + 1) fullShare f) ∗ ∃ f, rPts (F := F) (peer c e) (e.val + 1) f)
/-- What a payment of semaphore `k` of device `c` hands over. -/
def pay (c : Dev nD) : Ck → Fin 3 → sProp 𝕄
  | none, e => barPay c e
  | some (0, h), _ => aPts c 0 (lent h) (ab m c)
  | some (1, h), _ => aPts c (h.val + 1) fullShare (ab m c)
  | some (2, h), _ => sPts c (h.val + 1) (sAll m c)
  | some (3, h), _ => rPts c (h.val + 1) (rAll m c)
/-- The send cell of a row gives back what was lent; -/
theorem pay_0 (c : Dev nD) (h : Fin 3) : pay m c (some (0, h)) 0 ⊢ aPts c 0 (lent h) (ab m c) := .rfl
/-- its receive cell the row that landed; -/
theorem pay_1 (c : Dev nD) (h : Fin 3) (n : ℕ) (hn : n = h.val + 1) : pay m c (some (1, h)) 0 ⊢ aPts c n fullShare (ab m c) := by subst hn; exact .rfl
/-- the send cell of a block the slab sent; -/
theorem pay_2 (c : Dev nD) (h : Fin 3) (n : ℕ) (hn : n = h.val + 1) : pay m c (some (2, h)) 0 ⊢ sPts c n (sAll m c) := by subst hn; exact .rfl
/-- its receive cell the slab that landed. -/
theorem pay_3 (c : Dev nD) (h : Fin 3) (n : ℕ) (hn : n = h.val + 1) : pay m c (some (3, h)) 0 ⊢ rPts c n (rAll m c) := by subst hn; exact .rfl
/-- Its units. -/
def amt : Ck → ℕ
  | none => 1
  | some (0, _) => NA | some (1, _) => NA | some (2, _) => NB | some (3, _) => NB
/-- Every payment is worth something. -/
theorem amt_pos : ∀ k, 0 < amt k
  | none => Nat.one_pos
  | some (0, _) => NA_pos | some (1, _) => NA_pos | some (2, _) => NB_pos | some (3, _) => NB_pos
/-- Its duties. -/
def dut : Ck → Finset (Fin 3)
  | none => Finset.univ
  | some _ => {0}

/-- The schedule: one round at each cell, with its payments, what each is worth and what it hands over. -/
def Rd : Rounds.Schedule (GSem nD τ sig) (Fin 3) 𝕄 where
  duties g r := if r = 0 ∧ g.1.2 = .tc then (match ck g.2 with | some k => dut k | none => ∅) else ∅
  unitless _ := False
  amount g _ _ := match ck g.2 with | some k => amt k | none => 1
  payload g _ d := match ck g.2 with | some k => pay m g.1.1 k d | none => iprop(emp)
  amount_pos g _ _ _ := by
    cases h : ck g.2 with
    | none => exact Nat.one_pos
    | some k => exact amt_pos k

omit [FloatOps F] in
/-- What the barrier hands over may be handed over, -/
instance barPay_storable (c : Dev nD) (e : Fin 3) : BI.Storable (upEmb : UEmb _ 𝕄) (barPay (F := F) c e) := by unfold barPay; infer_instance
/-- what a cell hands over too, -/
instance pay_storable (c : Dev nD) : ∀ (k : Ck) (d : Fin 3), BI.Storable (upEmb : UEmb _ 𝕄) (pay (F := F) m c k d)
  | none, e => barPay_storable c e
  | some (0, h), _ => aPts_storable ..
  | some (1, h), _ => aPts_storable ..
  | some (2, h), _ => sPts_storable ..
  | some (3, h), _ => rPts_storable ..
/-- hence all that the schedule does. -/
instance Rd_payload_storable (g : GSem nD τ sig) (r : ℕ) (d : Fin 3) : BI.Storable (upEmb : UEmb _ 𝕄) ((Rd (F := F) m).payload g r d) := by
  show BI.Storable upEmb (match ck g.2 with | some k => pay m g.1.1 k d | none => iprop(emp))
  split <;> infer_instance

section Sched
variable (c : Dev nD) (k : Ck)

/-- The payments at a cell, -/
theorem duties_cell : (Rd (F := F) m).duties (cell c k) 0 = dut k := by
  dsimp only [Rd]; rw [if_pos ⟨rfl, rfl⟩, ck_csem]
/-- none after the first round, -/
theorem duties_later (g : GSem nD τ sig) : ∀ r, 1 ≤ r → (Rd (F := F) m).duties g r = ∅ :=
  fun r hr => by dsimp only [Rd]; rw [if_neg fun h => by omega]
/-- what each is worth -/
theorem amount_cell (d : Fin 3) : (Rd (F := F) m).amount (cell c k) 0 d = amt k := by dsimp only [Rd]; rw [ck_csem]
/-- and what it hands over. -/
theorem payload_cell (d : Fin 3) : (Rd (F := F) m).payload (cell c k) 0 d = pay m c k d := by dsimp only [Rd]; rw [ck_csem]

/-- A barrier waits for three raises, -/
theorem expect_bar : (Rd (F := F) m).expect (barCell c) 0 = 3 := by
  unfold Schedule.expect Schedule.amountOf
  rw [duties_cell, Finset.sum_congr rfl fun d _ => amount_cell m c none d]; rfl
/-- a transfer's cell for the one transfer. -/
theorem expect_dma (x : Fin 4 × Fin 3) : (Rd (F := F) m).expect (cell c (some x)) 0 = amt (some x) := by
  unfold Schedule.expect Schedule.amountOf
  rw [duties_cell, Finset.sum_congr rfl fun d _ => amount_cell m c (some x) d]; exact Finset.sum_singleton _ _

/-- All a barrier hands over: the three landing places of each kind. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_cell, bigSep_congr fun d _ => payload_cell m c none d]
  exact bigSep_univ_eq_bigSepL [0, 1, 2] (by decide) (by decide) _
/-- A transfer's cell hands over the one transfer's contents. -/
theorem rest_dma (x : Fin 4 × Fin 3) :
    bigSep ((Rd (F := F) m).duties (cell c (some x)) 0 \ ∅) (fun d => (Rd (F := F) m).payload (cell c (some x)) 0 d) = pay m c (some x) 0 := by
  rw [Finset.sdiff_empty, duties_cell]
  exact (bigSep_singleton).trans (payload_cell m c (some x) 0)

end Sched

/-! ## What is owed, and the levels -/

/-- A list of payments still to make, the next one first. -/
def owe (l : List (GSem nD τ sig × ℕ)) : CellTallies nD τ sig Unit := l.foldr (fun p O => O + tallyAt p.1 () p.2) 0

/-- The payments of the block exchange, -/
def due2 (c : Dev nD) : List (GSem nD τ sig × ℕ) := [(dcell 3 (peer c 0) 0, NB), (dcell 3 (peer c 1) 1, NB), (dcell 3 (peer c 2) 2, NB)]
/-- with those of the row exchange before them, -/
def due1 (c : Dev nD) : List (GSem nD τ sig × ℕ) :=
  (dcell 1 (peer c 0) 0, NA) :: (dcell 1 (peer c 1) 1, NA) :: (dcell 1 (peer c 2) 2, NA) :: due2 c
/-- with the three raises of the other devices' barriers before them. -/
def due0 (c : Dev nD) : List (GSem nD τ sig × ℕ) := (barCell (peer c 0), 1) :: (barCell (peer c 1), 1) :: (barCell (peer c 2), 1) :: due1 c

/-- The cells that are waited for: those of the cores. -/
def L (g : GSem nD τ sig) : Finset Unit := if g.1.2 = .tc then {()} else ∅
/-- The barrier before the rows received, those before the blocks received; everything else below. -/
def lvk : Option Ck → ℕ
  | some none => 1
  | some (some (1, _)) => 2
  | some (some (3, _)) => 3
  | _ => 0
/-- The level of a cell. -/
def lv (g : GSem nD τ sig) (_ : Unit) : ℕ := lvk (ck g.2)

/-- No cell of another processor is one of them, -/
theorem L_of_ne (g : GSem nD τ sig) (h : g.1.2 ≠ .tc) : L g = ∅ := if_neg h
/-- each of a core is. -/
theorem L_tc (c : Dev nD) (sm : SemLoc sig) : L ((c : Thread nD τ), sm) = {()} := if_pos rfl

/-- What is owed at a cell is a payment of the list. -/
theorem owe_pos (l : List (GSem nD τ sig × ℕ)) (g : GSem nD τ sig) (u : Unit) (h : 0 < owe l g u) : ∃ n, (g, n) ∈ l := by
  induction l with
  | nil => exact absurd h (Nat.lt_irrefl 0)
  | cons p l ih =>
    have h' : 0 < owe l g u + tallyAt p.1 () p.2 g u := h
    by_cases hg : g = p.1
    · exact ⟨p.2, by rw [hg]; exact List.mem_cons_self ..⟩
    · rw [tallyAt_apply, if_neg (fun h => hg h.1), Nat.add_zero] at h'
      obtain ⟨n, hn⟩ := ih h'
      exact ⟨n, List.mem_cons_of_mem _ hn⟩

omit [FloatOps F] in
/-- A device may wait for a semaphore when everything it still owes lies above it. -/
theorem mayWait (c : Dev nD) (sm : SemLoc sig) (l : List (GSem nD τ sig × ℕ)) (h : ∀ p ∈ l, p.1.1.2 = .tc ∧ lvk (ck sm) < lvk (ck p.1.2)) :
    (levAts L lv : sProp 𝕄) ⊢ MayWait (c : Thread nD τ) sm () (owe l) :=
  MayOwe.of_cut (L := L) (lev := lv) (lvk (ck sm)) (fun p hp => by rw [Finset.mem_singleton.mp hp, L_tc]; exact Finset.mem_singleton_self _)
    (fun g u hg => by obtain ⟨n, hn⟩ := owe_pos l g u hg; unfold L; rw [if_pos (h _ hn).1]; exact Finset.mem_singleton_self _)
    (fun p hp => by rw [Finset.mem_singleton.mp hp]; exact le_refl _)
    (fun g u hg => by obtain ⟨n, hn⟩ := owe_pos l g u hg; exact (h _ hn).2)

/-- The level of a transfer's cell, by its kind. -/
theorem lvk_dcell (x : Dev nD) (kind : Fin 4) (h : Fin 3) : lvk (ck (dcell kind x h).2) = lvk (some (some (kind, h))) :=
  congrArg lvk (ck_csem (some (kind, h)))

/-- The blocks owed lie above the levels below three, -/
theorem due2_above (c : Dev nD) (n : ℕ) (hn : n < 3) : ∀ p ∈ due2 c, p.1.1.2 = .tc ∧ n < lvk (ck p.1.2) := by
  intro p hp
  simp only [due2, List.mem_cons, List.not_mem_nil, or_false] at hp
  rcases hp with rfl | rfl | rfl <;> exact ⟨rfl, lt_of_lt_of_eq hn (lvk_dcell _ 3 _).symm⟩
/-- with the rows above those below two, -/
theorem due1_above (c : Dev nD) (n : ℕ) (hn : n < 2) : ∀ p ∈ due1 c, p.1.1.2 = .tc ∧ n < lvk (ck p.1.2) := by
  intro p hp
  simp only [due1, List.mem_cons] at hp
  rcases hp with rfl | rfl | rfl | hp
  iterate 3 exact ⟨rfl, lt_of_lt_of_eq hn (lvk_dcell _ 1 _).symm⟩
  exact due2_above c n (by omega) p hp
/-- and with the barriers above the lowest. -/
theorem due0_above (c : Dev nD) (n : ℕ) (hn : n < 1) : ∀ p ∈ due0 c, p.1.1.2 = .tc ∧ n < lvk (ck p.1.2) := by
  intro p hp
  simp only [due0, List.mem_cons] at hp
  rcases hp with rfl | rfl | rfl | hp
  iterate 3 exact ⟨rfl, hn⟩
  exact due1_above c n (by omega) p hp

end Cert.Exchange

end
-- ==== Proof.Steps.lean ====
/-
The steps of the exchange: raising another device's barrier, the wait at one's own, sending a row, sending a slab, and
waiting for a transfer.
-/
module

public import proofs.«01_k».proof.Proof.Sched

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of the kernel needs a variant. -/
abbrev 𝒱₀ : Variants := Variants.none

/-- Every semaphore taking part, on every device. -/
abbrev Cx : Type := Dev nD × Ck

variable (K : Cx → ℕ)

/-! ## The records -/

/-- The record of a semaphore: its schedule is in force, and its round is open. -/
def rec1 (x : Cx) : sProp 𝕄 := iprop(cellInv ER (Rd m) (K x) (kcell x) ∗ reached ER (kcell x) 0)
/-- The records of all, and the levels. -/
def recs : sProp 𝕄 := iprop(bigSep (Finset.univ : Finset Cx) (rec1 m K) ∗ levAts L lv)

/-- What is known of a cell stays known, -/
instance rec1_persistent (x : Cx) : BI.Persistent (rec1 (F := F) m K x) := by unfold rec1; infer_instance
/-- and what is known of all of them. -/
instance recs_persistent : BI.Persistent (recs (F := F) m K) := by unfold recs; infer_instance

/-- From all of them, one; -/
theorem recs_rec1 (x : Cx) : recs m K ⊢ rec1 m K x := by
  have h : bigSep (Finset.univ : Finset Cx) (rec1 m K) ⊢ rec1 m K x := bigSep_elim (Finset.mem_univ x)
  unfold recs
  iintro ⟨#H, -⟩
  iapply h; iexact H
/-- its invariant; -/
theorem recs_inv (c : Dev nD) (k : Ck) : recs m K ⊢ cellInv ER (Rd m) (K (c, k)) (cell c k) := by
  iintro H
  ihave H' := (recs_rec1 m K (c, k)) $$ H
  unfold rec1
  icases H' with ⟨H1, -⟩
  iexact H1
/-- its first round; -/
theorem recs_reached (c : Dev nD) (k : Ck) : recs m K ⊢ reached ER (cell c k) 0 := by
  iintro H
  ihave H' := (recs_rec1 m K (c, k)) $$ H
  unfold rec1
  icases H' with ⟨-, H1⟩
  iexact H1
/-- and the levels. -/
theorem recs_lev : recs m K ⊢ (levAts L lv : sProp 𝕄) := by
  unfold recs
  iintro ⟨-, H⟩
  iexact H

/-- What a device owes, whatever it has waited for. -/
def Owes (c : Dev nD) (l : List (GSem nD τ sig × ℕ)) : sProp 𝕄 := iprop(∃ W, owes (c : Thread nD τ) (owe l) W)

/-- One's token to raise the barrier of the device `h + 1` places on, -/
def tokBar (c : Dev nD) (h : Fin 3) : sProp 𝕄 := dutyTok ER (barCell (peer c h)) 0 h.rev
/-- and to pay a semaphore of a transfer. -/
def tok (k : Fin 4) (c : Dev nD) (h : Fin 3) : sProp 𝕄 := dutyTok ER (dcell k c h) 0 (0 : Fin 3)
/-- A semaphore not yet waited for, -/
def at0 (c : Dev nD) (k : Ck) : sProp 𝕄 := atPos ER (cell c k) 0 ∅ 0
/-- and one waited for. -/
def at1 (c : Dev nD) (k : Ck) : sProp 𝕄 := atPos ER (cell c k) 1 ∅ 0
/-- The credit for waiting. -/
def crd (c : Dev nD) (k : Ck) (n : ℕ) : sProp 𝕄 := cred (tallyAt (cell c k) () n)

section Steps

/-- Raise the barrier of the device `h + 1` places on, handing it the row and the slab it will send to. -/
theorem step_signal (c n : Dev nD) (h : Fin 3) (hn : n = peer c h) {k' : ℕ} (hk' : 1 = k') (l : List (GSem nD τ sig × ℕ))
    (fa : Vec F S4x128 .f32) (fr : Vec F S4x1024x512 .fp8e4m3)
    {α : Type} {Q : α → sProp 𝕄} {k : PUnit → Prog (TpuEff nD τ sig (Elt F) Λ₀ .tc) α} :
    iprop(recs m K ∗ Owes c ((barCell (peer c h), 1) :: l) ∗ tokBar c h ∗ aPts c (h.rev.val + 1) fullShare fa ∗ rPts c (h.rev.val + 1) fr)
      ⊢ iprop((Owes c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  iintro ⟨#HR, HO, Ht, Ha, Hr⟩ Hk
  unfold Owes tokBar
  icases HO with ⟨%W, HO⟩
  iapply (Rounds.wp_signal 𝒱₀ ER (Rd m) (c : Thread nD τ) none (dst := (peer c h : Thread nD τ)) (κ := K (peer c h, none)) (r := 0) (d := h.rev)
      (by rw [duties_cell m (peer c h) none]; exact Finset.mem_univ _) ((amount_cell m (peer c h) none h.rev).trans hk') () (owe l) (by subst hk'; rfl) (W := W))
    $$ [HO Ht Ha Hr]
  · isplitr; · iapply (recs_inv m K (peer c h) none); iexact HR
    isplitl [HO]; · iexact HO
    isplitl [Ht]; · iexact Ht
    isplitl [Ha Hr]
    · rw [payload_cell m (peer c h) none]
      rw [show pay m (peer c h) none h.rev = barPay (peer c h) h.rev from rfl]
      unfold barPay
      rw [peer_rev]
      isplitl [Ha]
      · iexists fa; iexact Ha
      · iexists fr; iexact Hr
    · iapply (recs_reached m K (peer c h) none); iexact HR
  iintro HO
  iapply Hk
  iexists W; iexact HO

/-- The wait at one's own barrier: the landing places on the three other devices. -/
theorem step_wait_bar (c : Dev nD) {k' : ℕ} (hk' : 3 = k') (l : List (GSem nD τ sig × ℕ)) (hl : ∀ p ∈ l, p.1.1.2 = .tc ∧ 1 < lvk (ck p.1.2))
    {α : Type} {Q : α → sProp 𝕄} {k : PUnit → Prog (TpuEff nD τ sig (Elt F) Λ₀ .tc) α} :
    iprop(recs m K ∗ Owes c l ∗ crd c none 3 ∗ at0 c none)
      ⊢ iprop(((Owes c l ∗ at1 c none ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, HO, Hc, Hat⟩ Hk
  unfold Owes crd at0 at1
  icases HO with ⟨%W, HO⟩
  iapply (Rounds.wp_wait_rest_token 𝒱₀ ER (Rd m) (c : Thread nD τ) none (κ := K (c, none))
      (wpE_semWait_eq 𝒱₀ (c : Thread nD τ) none Set.univ) (Set.mem_univ _) () (O := owe l) (W := W) (R := 0) (m := 0) (T := ∅)
      (by rw [expect_bar])) $$ [Hc HO Hat]
  · isplitr; · iapply (recs_inv m K c none); iexact HR
    isplitl [Hc]; · iexact Hc
    isplitl [HO]; · iexact HO
    isplitr; · iapply (mayWait c (csem none) l hl); iapply (recs_lev m K); iexact HR
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- The wait for a transfer, sent or received: the semaphore's payment. -/
theorem step_wait (c : Dev nD) (x : Fin 4) (h : Fin 3) (l : List (GSem nD τ sig × ℕ))
    (hl : ∀ p ∈ l, p.1.1.2 = .tc ∧ lvk (some (some (x, h))) < lvk (ck p.1.2))
    {sp sp' : Space} {s s' : Shape} {e e' : EltTy} {sr : Memref sig .tc sp' s' e'} {dst : Memref sig .tc sp s e}
    {hsrc : sr.view.WordExact} {hdst : dst.view.WordExact} (hN : dst.view.dmaCredit = amt (some (x, h)))
    {α : Type} {Q : α → sProp 𝕄} {k : PUnit → Prog (TpuEff nD τ sig (Elt F) Λ₀ .tc) α} :
    iprop(recs m K ∗ Owes c l ∗ crd c (some (x, h)) (amt (some (x, h))) ∗ at0 c (some (x, h)))
      ⊢ iprop(((Owes c l ∗ at1 c (some (x, h)) ∗ pay m c (some (x, h)) 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (dsem x h) sr dst hsrc hdst) k) Q) := by
  iintro ⟨#HR, HO, Hc, Hat⟩ Hk
  unfold Owes crd at0 at1
  icases HO with ⟨%W, HO⟩
  iapply (Rounds.wp_wait_rest_token 𝒱₀ ER (Rd m) (c : Thread nD τ) none (κ := K (c, some (x, h)))
      (wpE_waitDma2_eq 𝒱₀ (c : Thread nD τ) none Set.univ) (Set.mem_univ _) () (O := owe l) (W := W) (R := 0) (m := 0) (T := ∅)
      (by rw [Nat.zero_add]; exact hN.trans (expect_dma m c (x, h)).symm)) $$ [Hc HO Hat]
  · isplitr; · iapply (recs_inv m K c (some (x, h))); iexact HR
    isplitl [Hc]; · rw [hN]; iexact Hc
    isplitl [HO]; · iexact HO
    isplitr
    · iapply (mayWait c (csem (some (x, h))) l (fun p hp => by rw [ck_csem]; exact hl p hp))
      iapply (recs_lev m K); iexact HR
    iexact Hat
  iintro ⟨HO, Hat, -, Hpay⟩
  ihave Hp := (Entails.of_eq (rest_dma m c (x, h))) $$ Hpay
  iapply Hk
  isplitl [HO]; · iexists _; iexact HO
  isplitl [Hat]; · iexact Hat
  iexact Hp

omit [FloatOps F] in
/-- A transfer's cell has its one payment. -/
theorem mem_dut (k : Fin 4 × Fin 3) : (0 : Fin 3) ∈ dut (some k) := Finset.mem_singleton_self _

/-- Send one's row of maxima to the device `h + 1` places on. -/
theorem step_send_row (c n : Dev nD) (h : Fin 3) (hn : n = peer c h) (r : ℕ) (hr : r = h.val + 1) (inb inb0) (l : List (GSem nD τ sig × ℕ))
    (fd : Vec F S4x128 .f32)
    {hsc : (aRow r inb : Memref sig (Dev.tc n : Thread nD τ).2.kind .vmem S128 .f32).view.ref.isScScratch = false}
    {hsrc : (aRow 0 inb0).view.WordExact} {hdst : (aRow r inb).view.WordExact}
    {hsem : DmaTarget.Typed .vmem (.dma (dsem 1 h)) (.remote (Dev.tc n : Thread nD τ) (aRow r inb) (.dma (dsem 0 h)) hsc)}
    {α : Type} {Q : α → sProp 𝕄} {k : PUnit → Prog (TpuEff nD τ sig (Elt F) Λ₀ .tc) α} :
    iprop(recs m K ∗ Owes c ((dcell 1 (peer c h) h, NA) :: l) ∗ aPts c 0 (lent h) (ab m c) ∗ aPts (peer c h) r fullShare fd
        ∗ tok 0 c h ∗ tok 1 (peer c h) h)
      ⊢ iprop(((crd c (some (0, h)) NA ∗ Owes c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (aRow 0 inb0) (.remote (Dev.tc n : Thread nD τ) (aRow r inb) (.dma (dsem 0 h)) hsc) (.dma (dsem 1 h)) hsrc hdst hsem) k) Q) := by
  subst hn hr
  iintro ⟨#HR, HO, Ha, Hd, Ht0, Ht1⟩ Hk
  unfold Owes aPts tok crd
  icases HO with ⟨%W, HO⟩
  have es := aRow_set 0 inb0
  have ed := aRow_set (h.val + 1) inb
  iapply (Rounds.wp_send_pointsTo 𝒱₀ ER (Rd m) (c : Thread nD τ) none (c' := (Dev.tc (peer c h) : Thread nD τ)) (src := aRow 0 inb0) (dst := aRow (h.val + 1) inb)
      (q := lent h) (fs := ab m c) (fd := fd) (κ₁ := K (c, some (0, h))) (κ₂ := K (peer c h, some (1, h)))
      (r₁ := 0) (r₂ := 0) (d₁ := (0 : Fin 3)) (d₂ := (0 : Fin 3))
      (by rw [duties_cell m c (some (0, h))]; exact mem_dut _) (by rw [duties_cell m (peer c h) (some (1, h))]; exact mem_dut _)
      () () NA rfl (amount_cell m c (some (0, h)) 0) (amount_cell m (peer c h) (some (1, h)) 0) (owe l) rfl (W := W)
      (by rw [payload_cell m c (some (0, h))]; unfold pay aPts; rw [es])
      (by
        rw [payload_cell m (peer c h) (some (1, h))]; unfold pay aPts; rw [ed]
        refine Entails.of_eq (pointsTo_congr fun i hi => ?_)
        exact land_row m c (h.val + 1) (by omega) inb inb0 fd i hi)) $$ [HO Ha Hd Ht0 Ht1]
  · isplitr; · iapply (recs_inv m K c (some (0, h))); iexact HR
    isplitr; · iapply (recs_inv m K (peer c h) (some (1, h))); iexact HR
    isplitl [Ha]; · rw [es]; iexact Ha
    isplitl [Hd]; · rw [ed]; iexact Hd
    isplitl [HO]; · iexact HO
    isplitl [Ht0]; · iexact Ht0
    isplitr; · iapply (recs_reached m K c (some (0, h))); iexact HR
    isplitl [Ht1]; · iexact Ht1
    iapply (recs_reached m K (peer c h) (some (1, h))); iexact HR
  iintro ⟨Hc, HO⟩
  iapply Hk
  isplitl [Hc]; · iexact Hc
  iexists W; iexact HO

/-- Send the quantised block for the device `h + 1` places on. -/
theorem step_send_slab (c n : Dev nD) (h : Fin 3) (hn : n = peer c h) (r : ℕ) (hr : r = h.val + 1) (inb inb') (l : List (GSem nD τ sig × ℕ))
    (fd : Vec F S4x1024x512 .fp8e4m3)
    {hsc : (rSlab r inb : Memref sig (Dev.tc n : Thread nD τ).2.kind .vmem S1024x512 .fp8e4m3).view.ref.isScScratch = false}
    {hsrc : (sSlab r inb').view.WordExact} {hdst : (rSlab r inb).view.WordExact}
    {hsem : DmaTarget.Typed .vmem (.dma (dsem 3 h)) (.remote (Dev.tc n : Thread nD τ) (rSlab r inb) (.dma (dsem 2 h)) hsc)}
    {α : Type} {Q : α → sProp 𝕄} {k : PUnit → Prog (TpuEff nD τ sig (Elt F) Λ₀ .tc) α} :
    iprop(recs m K ∗ Owes c ((dcell 3 (peer c h) h, NB) :: l) ∗ sPts c r (sAll m c) ∗ rPts (peer c h) r fd
        ∗ tok 2 c h ∗ tok 3 (peer c h) h)
      ⊢ iprop(((crd c (some (2, h)) NB ∗ Owes c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlab r inb') (.remote (Dev.tc n : Thread nD τ) (rSlab r inb) (.dma (dsem 2 h)) hsc) (.dma (dsem 3 h)) hsrc hdst hsem) k) Q) := by
  subst hn hr
  iintro ⟨#HR, HO, Ha, Hd, Ht0, Ht1⟩ Hk
  unfold Owes sPts rPts tok crd
  icases HO with ⟨%W, HO⟩
  have es := sSlab_set (h.val + 1) inb'
  have ed := rSlab_set (h.val + 1) inb
  iapply (Rounds.wp_send_pointsTo 𝒱₀ ER (Rd m) (c : Thread nD τ) none (c' := (Dev.tc (peer c h) : Thread nD τ)) (src := sSlab (h.val + 1) inb') (dst := rSlab (h.val + 1) inb)
      (q := fullShare) (fs := sAll m c) (fd := fd) (κ₁ := K (c, some (2, h))) (κ₂ := K (peer c h, some (3, h)))
      (r₁ := 0) (r₂ := 0) (d₁ := (0 : Fin 3)) (d₂ := (0 : Fin 3))
      (by rw [duties_cell m c (some (2, h))]; exact mem_dut _) (by rw [duties_cell m (peer c h) (some (3, h))]; exact mem_dut _)
      () () NB rfl (amount_cell m c (some (2, h)) 0) (amount_cell m (peer c h) (some (3, h)) 0) (owe l) rfl (W := W)
      (by rw [payload_cell m c (some (2, h))]; unfold pay sPts; rw [es])
      (by
        rw [payload_cell m (peer c h) (some (3, h))]; unfold pay rPts; rw [ed]
        refine Entails.of_eq (pointsTo_congr fun i hi => ?_)
        exact land_slab m c (h.val + 1) (by omega) inb inb' fd i hi)) $$ [HO Ha Hd Ht0 Ht1]
  · isplitr; · iapply (recs_inv m K c (some (2, h))); iexact HR
    isplitr; · iapply (recs_inv m K (peer c h) (some (3, h))); iexact HR
    isplitl [Ha]; · rw [es]; iexact Ha
    isplitl [Hd]; · rw [ed]; iexact Hd
    isplitl [HO]; · iexact HO
    isplitl [Ht0]; · iexact Ht0
    isplitr; · iapply (recs_reached m K c (some (2, h))); iexact HR
    isplitl [Ht1]; · iexact Ht1
    iapply (recs_reached m K (peer c h) (some (3, h))); iexact HR
  iintro ⟨Hc, HO⟩
  iapply Hk
  isplitl [Hc]; · iexact Hc
  iexists W; iexact HO

end Steps

/-- A semaphore waited for is at zero again. -/
theorem close (c : Dev nD) (k : Ck) : iprop(recs m K ∗ at1 c k) ⊢ iprop(|={Set.univ}=> semVal (cell c k) 0) := by
  unfold at1
  iintro ⟨#HR, Hat⟩
  iapply (Rounds.cell_close ER (Rd m) (Set.mem_univ (K (c, k))) (fun h => h) (R := 0 + 1) (duties_later m (cell c k)))
  isplitr; · iapply (recs_inv m K c k); iexact HR
  iexact Hat

end Cert.Exchange

end
-- ==== Proof.Pieces.lean ====
/-
The buffers in pieces: a whole buffer is its rows or slabs, a row's full share is the shares lent and the share kept; and
the loads and stores of the kernel on the pieces it holds.
-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Rows and slabs -/

/-- No two rows share an element, -/
theorem rowSet_disjoint : ∀ t ∈ (Finset.univ : Finset (Fin 4)), ∀ t' ∈ (Finset.univ : Finset (Fin 4)), t ≠ t' → Disjoint (rowSet t.val) (rowSet t'.val) :=
  fun t _ t' _ h => Finset.disjoint_left.mpr fun i hi hi' => h (Fin.ext ((mem_rowSet.mp hi).symm.trans (mem_rowSet.mp hi')))
/-- nor do two slabs; -/
theorem slabSet_disjoint : ∀ t ∈ (Finset.univ : Finset (Fin 4)), ∀ t' ∈ (Finset.univ : Finset (Fin 4)), t ≠ t' → Disjoint (slabSet t.val) (slabSet t'.val) :=
  fun t _ t' _ h => Finset.disjoint_left.mpr fun i hi hi' => h (Fin.ext ((mem_slabSet.mp hi).symm.trans (mem_slabSet.mp hi')))
/-- the rows are the whole row buffer, -/
theorem rowSet_cover : (Finset.univ : Finset (Fin 4)).biUnion (fun t => rowSet t.val) = Finset.univ :=
  Finset.eq_univ_of_forall fun i => Finset.mem_biUnion.mpr ⟨i 0, Finset.mem_univ _, mem_rowSet.mpr rfl⟩
/-- and the slabs the whole of a block buffer. -/
theorem slabSet_cover : (Finset.univ : Finset (Fin 4)).biUnion (fun t => slabSet t.val) = Finset.univ :=
  Finset.eq_univ_of_forall fun i => Finset.mem_biUnion.mpr ⟨i 0, Finset.mem_univ _, mem_slabSet.mpr rfl⟩

omit [FloatOps F] in
/-- The row buffer is its four rows, -/
theorem aRows (c : Dev nD) (q : PosShare TreeShare) (f : Vec F S4x128 .f32) :
    (((c : Thread nD τ).loc cc0_scratch1 ↦{q} f : sProp 𝕄)) = iprop(aPts c 0 q f ∗ aPts c 1 q f ∗ aPts c 2 q f ∗ aPts c 3 q f) := by
  have h := pointsTo_biUnion (nD := nD) (τ := τ) (sig := sig) (Ix := Unit) (Val := Elt F) (Name := ℕ) (U := UU) (Lvl := ℕ)
    (ℓ := (c : Thread nD τ).loc cc0_scratch1) (q := q) (f := f) (Finset.univ : Finset (Fin 4)) (fun t => rowSet t.val) rowSet_disjoint
  rw [rowSet_cover] at h
  exact h.trans (bigSep_univ_eq_bigSepL [0, 1, 2, 3] (by decide) (by decide) _)
omit [FloatOps F] in
/-- the outgoing blocks' its four slabs, -/
theorem sSlabs (c : Dev nD) (f : Vec F S4x1024x512 .fp8e4m3) :
    (((c : Thread nD τ).loc cc0_scratch2 ↦{fullShare} f : sProp 𝕄)) = iprop(sPts c 0 f ∗ sPts c 1 f ∗ sPts c 2 f ∗ sPts c 3 f) := by
  have h := pointsTo_biUnion (nD := nD) (τ := τ) (sig := sig) (Ix := Unit) (Val := Elt F) (Name := ℕ) (U := UU) (Lvl := ℕ)
    (ℓ := (c : Thread nD τ).loc cc0_scratch2) (q := fullShare) (f := f) (Finset.univ : Finset (Fin 4)) (fun t => slabSet t.val) slabSet_disjoint
  rw [slabSet_cover] at h
  exact h.trans (bigSep_univ_eq_bigSepL [0, 1, 2, 3] (by decide) (by decide) _)
omit [FloatOps F] in
/-- and the incoming blocks' too. -/
theorem rSlabs (c : Dev nD) (f : Vec F S4x1024x512 .fp8e4m3) :
    (((c : Thread nD τ).loc cc0_scratch3 ↦{fullShare} f : sProp 𝕄)) = iprop(rPts c 0 f ∗ rPts c 1 f ∗ rPts c 2 f ∗ rPts c 3 f) := by
  have h := pointsTo_biUnion (nD := nD) (τ := τ) (sig := sig) (Ix := Unit) (Val := Elt F) (Name := ℕ) (U := UU) (Lvl := ℕ)
    (ℓ := (c : Thread nD τ).loc cc0_scratch3) (q := fullShare) (f := f) (Finset.univ : Finset (Fin 4)) (fun t => slabSet t.val) slabSet_disjoint
  rw [slabSet_cover] at h
  exact h.trans (bigSep_univ_eq_bigSepL [0, 1, 2, 3] (by decide) (by decide) _)

omit [FloatOps F] in
/-- What a slab sent holds is read on the slab alone, -/
theorem sPts_congr (c : Dev nD) (n : ℕ) {f g : Vec F S4x1024x512 .fp8e4m3} (h : ∀ i ∈ slabSet n, f i = g i) : (sPts (F := F) c n f : sProp 𝕄) = sPts c n g := by
  unfold sPts; exact pointsTo_congr h
omit [FloatOps F] in
/-- so is what a slab received holds, -/
theorem rPts_congr (c : Dev nD) (n : ℕ) {f g : Vec F S4x1024x512 .fp8e4m3} (h : ∀ i ∈ slabSet n, f i = g i) : (rPts (F := F) c n f : sProp 𝕄) = rPts c n g := by
  unfold rPts; exact pointsTo_congr h
omit [FloatOps F] in
/-- and what a row holds. -/
theorem aPts_congr (c : Dev nD) (n : ℕ) (q : PosShare TreeShare) {f g : Vec F S4x128 .f32} (h : ∀ i ∈ rowSet n, f i = g i) : (aPts (F := F) c n q f : sProp 𝕄) = aPts c n q g := by
  unfold aPts; exact pointsTo_congr h

/-- Slab 0 of one, the other slabs of another. -/
def mix (f₀ f : Vec F S4x1024x512 .fp8e4m3) : Vec F S4x1024x512 .fp8e4m3 := fun i => if (i 0).val = 0 then f₀ i else f i
omit [FloatOps F] in
/-- On the first slab it is the first array, -/
theorem mix_zero (f₀ f : Vec F S4x1024x512 .fp8e4m3) : ∀ i ∈ slabSet 0, mix f₀ f i = f₀ i := fun i hi => if_pos (mem_slabSet.mp hi)
omit [FloatOps F] in
/-- on the others the second. -/
theorem mix_pos (f₀ f : Vec F S4x1024x512 .fp8e4m3) (n : ℕ) (hn : n ≠ 0) : ∀ i ∈ slabSet n, mix f₀ f i = f i :=
  fun i hi => if_neg (by rw [mem_slabSet.mp hi]; exact hn)

omit [FloatOps F] in
/-- Slabs back from the transfers, with the slab that took no part, are the whole buffer. -/
theorem sSlabs_join (c : Dev nD) (f₀ f : Vec F S4x1024x512 .fp8e4m3) :
    iprop(sPts (F := F) c 0 f₀ ∗ sPts c 1 f ∗ sPts c 2 f ∗ sPts c 3 f) ⊢ iprop(∃ g, ((c : Thread nD τ).loc cc0_scratch2 ↦{fullShare} g : sProp 𝕄)) := by
  iintro H
  iexists mix f₀ f
  rw [sSlabs, sPts_congr c 0 (mix_zero f₀ f), sPts_congr c 1 (mix_pos f₀ f 1 (by decide)), sPts_congr c 2 (mix_pos f₀ f 2 (by decide)),
    sPts_congr c 3 (mix_pos f₀ f 3 (by decide))]
  iexact H
omit [FloatOps F] in
/-- The four slabs received, joined into the whole buffer. -/
theorem rSlabs_join (c : Dev nD) (f₀ f : Vec F S4x1024x512 .fp8e4m3) :
    iprop(rPts (F := F) c 0 f₀ ∗ rPts c 1 f ∗ rPts c 2 f ∗ rPts c 3 f) ⊢ iprop(∃ g, ((c : Thread nD τ).loc cc0_scratch3 ↦{fullShare} g : sProp 𝕄)) := by
  iintro H
  iexists mix f₀ f
  rw [rSlabs, rPts_congr c 0 (mix_zero f₀ f), rPts_congr c 1 (mix_pos f₀ f 1 (by decide)), rPts_congr c 2 (mix_pos f₀ f 2 (by decide)),
    rPts_congr c 3 (mix_pos f₀ f 3 (by decide))]
  iexact H

omit [FloatOps F] in
/-- A row held outright is the three shares lent and the share kept. -/
theorem aShares (c : Dev nD) (n : ℕ) (f : Vec F S4x128 .f32) :
    (aPts (F := F) c n fullShare f : sProp 𝕄) ⊣⊢ iprop(aPts c n (lent 0) f ∗ aPts c n (lent 1) f ∗ aPts c n (lent 2) f ∗ aPts c n kept f) := by
  unfold aPts lent kept
  have h1 := pointsTo_share (nD := nD) (τ := τ) (sig := sig) (Ix := Unit) (Val := Elt F) (Name := ℕ) (U := UU) (Lvl := ℕ)
    (ℓ := (c : Thread nD τ).loc cc0_scratch1) (I := rowSet n) (f := f) (PosShare.mem_left_op_right fullShare)
  have h2 := pointsTo_share (nD := nD) (τ := τ) (sig := sig) (Ix := Unit) (Val := Elt F) (Name := ℕ) (U := UU) (Lvl := ℕ)
    (ℓ := (c : Thread nD τ).loc cc0_scratch1) (I := rowSet n) (f := f) (PosShare.mem_left_op_right fullShare.right)
  have h3 := pointsTo_share (nD := nD) (τ := τ) (sig := sig) (Ix := Unit) (Val := Elt F) (Name := ℕ) (U := UU) (Lvl := ℕ)
    (ℓ := (c : Thread nD τ).loc cc0_scratch1) (I := rowSet n) (f := f) (PosShare.mem_left_op_right fullShare.right.right)
  exact ⟨h1.1.trans (sep_mono_right (h2.1.trans (sep_mono_right h3.1))), (sep_mono_right ((sep_mono_right h3.2).trans h2.2)).trans h1.2⟩

/-! ## Loads and stores -/

section Mem

/-- Row 0 is reached through its own elements, -/
theorem row_access (inb) : (aM.access (aRect 0 inb) : View sig .tc _ _ _).set ⊆ rowSet 0 := by
  rw [show (aM.access (aRect 0 inb) : View sig .tc _ _ _).set = (aRect 0 inb).set from View.set_slice_whole _ _, row_rect]
/-- a slab sent through its own, -/
theorem sSlab_access (n : ℕ) (inb) : (sM.access (bRect n inb) : View sig .tc _ _ _).set ⊆ slabSet n := by
  rw [show (sM.access (bRect n inb) : View sig .tc _ _ _).set = (bRect n inb).set from View.set_slice_whole _ _, slab_rect]
/-- and a slab received through its own. -/
theorem rSlab_access (n : ℕ) (inb) : (rM.access (bRect n inb) : View sig .tc _ _ _).set ⊆ slabSet n := by
  rw [show (rM.access (bRect n inb) : View sig .tc _ _ _).set = (bRect n inb).set from View.set_slice_whole _ _, slab_rect]

/-- A load of row 0, whatever it holds; -/
theorem load_row0 (c : Dev nD) (inb) (f : Vec F S4x128 .f32) {hl} {α : Type} {Q : α → sProp 𝕄} {k : Vec F S1x128 .f32 → Prog (TpuEff nD τ sig (Elt F) Λ₀ .tc) α} :
    aPts c 0 fullShare f
      ⊢ iprop((aPts c 0 fullShare f -∗ wp frame (wpE (defs₀ (F := F)) 𝒱₀ (c : Thread nD τ) none) Set.univ (k (aM.view.readAt (Elt F) (aRect 0 inb).toLoadRect f)) Q)
          -∗ wp frame (wpE (defs₀ (F := F)) 𝒱₀ (c : Thread nD τ) none) Set.univ (.op (.load aM (aRect 0 inb).toLoadRect hl) k) Q) := by
  unfold aPts
  exact wp_load_rect 𝒱₀ (c : Thread nD τ) none Set.univ (m := aM) (r := aRect 0 inb) (row_access inb)
/-- a store to it; -/
theorem store_row0 (c : Dev nD) (inb) (f : Vec F S4x128 .f32) (v : Vec F S1x128 .f32) {hx hm} {α : Type} {Q : α → sProp 𝕄} {k : PUnit → Prog (TpuEff nD τ sig (Elt F) Λ₀ .tc) α} :
    aPts c 0 fullShare f
      ⊢ iprop((aPts c 0 fullShare (rowOf v) -∗ wp frame (wpE (defs₀ (F := F)) 𝒱₀ (c : Thread nD τ) none) Set.univ (k ⟨⟩) Q)
          -∗ wp frame (wpE (defs₀ (F := F)) 𝒱₀ (c : Thread nD τ) none) Set.univ (.op (.store aM (aRect 0 inb) v Finset.univ hx hm) k) Q) := by
  rw [← aPts_congr c 0 fullShare (write_row0 f v inb)]
  unfold aPts
  exact wp_store 𝒱₀ (c : Thread nD τ) none Set.univ (m := aM) (r := aRect 0 inb) (Mk := Finset.univ) (by rw [View.setOn_univ]; exact row_access inb)
/-- and the load of all four rows when they are in. -/
theorem load_rows (c : Dev nD) (inb) (q : PosShare TreeShare) (f : Vec F S4x128 .f32) {hl} {α : Type} {Q : α → sProp 𝕄} {k : Vec F S4x128 .f32 → Prog (TpuEff nD τ sig (Elt F) Λ₀ .tc) α} :
    iprop(aPts c 0 q f ∗ aPts c 1 q f ∗ aPts c 2 q f ∗ aPts c 3 q f)
      ⊢ iprop((iprop(aPts c 0 q f ∗ aPts c 1 q f ∗ aPts c 2 q f ∗ aPts c 3 q f) -∗ wp frame (wpE (defs₀ (F := F)) 𝒱₀ (c : Thread nD τ) none) Set.univ (k f) Q)
          -∗ wp frame (wpE (defs₀ (F := F)) 𝒱₀ (c : Thread nD τ) none) Set.univ
            (.op (.load aM (Rect.unit (s := S4x128) ![0, 0] S4x128.size inb).toLoadRect hl) k) Q) := by
  rw [← aRows]
  have h := wp_load (Λ := Λ₀) (defs := defs₀ (F := F)) 𝒱₀ (c : Thread nD τ) none Set.univ (m := aM) (r := (Rect.unit (s := S4x128) ![0, 0] S4x128.size inb).toLoadRect) (hl := hl) (Q := Q) (k := k)
    (q := q) (f := f) (Γ := []) (S := Finset.univ) (Finset.subset_univ _)
  rw [show aM.view.readAt (Elt F) (Rect.unit (s := S4x128) ![0, 0] S4x128.size inb).toLoadRect f = f from
    Memref.readAt_unit_zero (Elt F) cc0_scratch1 (funext fun a => by fin_cases a <;> rfl) _ f] at h
  exact h

/-- A load of an outgoing slab, whatever it holds; -/
theorem load_sSlab (c : Dev nD) (n : ℕ) (inb) (f : Vec F S4x1024x512 .fp8e4m3) {hl} {α : Type} {Q : α → sProp 𝕄} {k : Vec F S1x1024x512 .fp8e4m3 → Prog (TpuEff nD τ sig (Elt F) Λ₀ .tc) α} :
    sPts c n f
      ⊢ iprop((sPts c n f -∗ wp frame (wpE (defs₀ (F := F)) 𝒱₀ (c : Thread nD τ) none) Set.univ (k (sM.view.readAt (Elt F) (bRect n inb).toLoadRect f)) Q)
          -∗ wp frame (wpE (defs₀ (F := F)) 𝒱₀ (c : Thread nD τ) none) Set.univ (.op (.load sM (bRect n inb).toLoadRect hl) k) Q) := by
  unfold sPts
  exact wp_load_rect 𝒱₀ (c : Thread nD τ) none Set.univ (m := sM) (r := bRect n inb) (sSlab_access n inb)
/-- the store of the quantised block for the device `n` places on; -/
theorem store_sSlab (c : Dev nD) (n : ℕ) (inb) (f : Vec F S4x1024x512 .fp8e4m3) {v : Vec F S1x1024x512 .fp8e4m3} (hv : v = qb m c (fwd c n)) {hx hm} {α : Type} {Q : α → sProp 𝕄} {k : PUnit → Prog (TpuEff nD τ sig (Elt F) Λ₀ .tc) α} :
    sPts c n f
      ⊢ iprop((sPts c n (sAll m c) -∗ wp frame (wpE (defs₀ (F := F)) 𝒱₀ (c : Thread nD τ) none) Set.univ (k ⟨⟩) Q)
          -∗ wp frame (wpE (defs₀ (F := F)) 𝒱₀ (c : Thread nD τ) none) Set.univ (.op (.store sM (bRect n inb) v Finset.univ hx hm) k) Q) := by
  subst hv
  rw [← sPts_congr c n (write_slab m c n inb f)]
  unfold sPts
  exact wp_store 𝒱₀ (c : Thread nD τ) none Set.univ (m := sM) (r := bRect n inb) (Mk := Finset.univ) (by rw [View.setOn_univ]; exact sSlab_access n inb)
/-- and the load of the block received from the device `n` places back. -/
theorem load_rSlab (c : Dev nD) (n : ℕ) (inb) {hl} {α : Type} {Q : α → sProp 𝕄} {k : Vec F S1x1024x512 .fp8e4m3 → Prog (TpuEff nD τ sig (Elt F) Λ₀ .tc) α} :
    rPts c n (rAll m c)
      ⊢ iprop((rPts c n (rAll m c) -∗ wp frame (wpE (defs₀ (F := F)) 𝒱₀ (c : Thread nD τ) none) Set.univ (k (qb m (back c n) c)) Q)
          -∗ wp frame (wpE (defs₀ (F := F)) 𝒱₀ (c : Thread nD τ) none) Set.univ (.op (.load rM (bRect n inb).toLoadRect hl) k) Q) := by
  rw [← read_slab m c n inb]
  unfold rPts
  exact wp_load_rect 𝒱₀ (c : Thread nD τ) none Set.univ (m := rM) (r := bRect n inb) (rSlab_access n inb)

end Mem

/-! ## The product and the result -/

/-- The product buffer, right on its first `t` column blocks, -/
def Y (c : Dev nD) (t : ℕ) : sProp 𝕄 := iprop(∃ f : Vec F S1024x2048 .f32, ⌜YUpTo m c t f⌝ ∗ ((c : Thread nD τ).loc cc0_scratch0) ↦{fullShare} f)
/-- and the result buffer, right on the row blocks of the devices in `S`. -/
def Out (c : Dev nD) (S : Finset (Dev nD)) : sProp 𝕄 := iprop(∃ f : Vec F S4096x512 .f32, ⌜OAt m c S f⌝ ∗ ((c : Thread nD τ).loc cc0_stg2_0) ↦{fullShare} f)

/-- A load of the product buffer whose value is not used, -/
theorem load_y (c : Dev nD) (t : ℕ) {r : LoadRect S1024x2048} {hl} {α : Type} {Q : α → sProp 𝕄} {k : (r.shape.Idx → Elt F .f32) → Prog (TpuEff nD τ sig (Elt F) Λ₀ .tc) α} :
    Y m c t
      ⊢ iprop((∀ v, Y m c t -∗ wp frame (wpE (defs₀ (F := F)) 𝒱₀ (c : Thread nD τ) none) Set.univ (k v) Q)
          -∗ wp frame (wpE (defs₀ (F := F)) 𝒱₀ (c : Thread nD τ) none) Set.univ (.op (.load yM r hl) k) Q) := by
  unfold Y
  iintro ⟨%f, %hf, H⟩ Hk
  iapply (wp_load 𝒱₀ (c : Thread nD τ) none Set.univ (m := yM) (Finset.subset_univ _)) $$ H
  iintro H
  iapply Hk
  iexists f
  isplitr; · ipureintro; exact hf
  iexact H
/-- the store of column block `j`, -/
theorem store_y (c : Dev nD) (j : ℕ) (hj : j < 4) {off : Fin 2 → ℕ} {inb} (hoff : off = ![0, 512 * j]) {v : Vec F S1024x512 .f32} (hv : v = yblk m c j) {hx hm} {α : Type} {Q : α → sProp 𝕄} {k : PUnit → Prog (TpuEff nD τ sig (Elt F) Λ₀ .tc) α} :
    Y m c j
      ⊢ iprop((Y m c (j + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.store yM (Rect.unit (s := S1024x2048) off S1024x512.size inb) v Finset.univ hx hm) k) Q) := by
  subst hv
  unfold Y
  iintro ⟨%f, %hf, H⟩ Hk
  iapply (wp_store 𝒱₀ (c : Thread nD τ) none Set.univ (m := yM) (r := Rect.unit (s := S1024x2048) off S1024x512.size inb) (Mk := Finset.univ) (Finset.subset_univ _)) $$ H
  iintro H
  iapply Hk
  iexists _
  isplitr; · ipureintro; exact yUpTo_store m c j hj off inb hoff f hf
  iexact H
/-- and the load of a column block when all are stored. -/
theorem load_yblk (c : Dev nD) (j : ℕ) (hj : j < 4) {off : Fin 2 → ℕ} {inb} (hoff : off = ![0, 512 * j]) {hl} {α : Type} {Q : α → sProp 𝕄} {k : Vec F S1024x512 .f32 → Prog (TpuEff nD τ sig (Elt F) Λ₀ .tc) α} :
    Y m c 4
      ⊢ iprop((Y m c 4 -∗ wp frame (wpE (defs₀ (F := F)) 𝒱₀ (c : Thread nD τ) none) Set.univ (k (yblk m c j)) Q)
          -∗ wp frame (wpE (defs₀ (F := F)) 𝒱₀ (c : Thread nD τ) none) Set.univ
            (.op (.load yM (Rect.unit (s := S1024x2048) off S1024x512.size inb).toLoadRect hl) k) Q) := by
  unfold Y
  iintro ⟨%f, %hf, H⟩ Hk
  have e := yUpTo_all m c f hf
  subst e
  iapply (wp_load 𝒱₀ (c : Thread nD τ) none Set.univ (m := yM) (Finset.subset_univ _)) $$ H
  iintro H
  rw [read_yAll m c j hj off inb hoff]
  iapply Hk
  iexists _
  isplitr; · ipureintro; exact hf
  iexact H

/-- A load of the result buffer whose value is not used, -/
theorem load_out (c : Dev nD) (S : Finset (Dev nD)) {r : LoadRect S4096x512} {hl} {α : Type} {Q : α → sProp 𝕄} {k : (r.shape.Idx → Elt F .f32) → Prog (TpuEff nD τ sig (Elt F) Λ₀ .tc) α} :
    Out m c S
      ⊢ iprop((∀ v, Out m c S -∗ wp frame (wpE (defs₀ (F := F)) 𝒱₀ (c : Thread nD τ) none) Set.univ (k v) Q)
          -∗ wp frame (wpE (defs₀ (F := F)) 𝒱₀ (c : Thread nD τ) none) Set.univ (.op (.load oM r hl) k) Q) := by
  unfold Out
  iintro ⟨%f, %hf, H⟩ Hk
  iapply (wp_load 𝒱₀ (c : Thread nD τ) none Set.univ (m := oM) (Finset.subset_univ _)) $$ H
  iintro H
  iapply Hk
  iexists f
  isplitr; · ipureintro; exact hf
  iexact H
/-- and the store of the row block of device `p`. -/
theorem store_out (c p : Dev nD) (S : Finset (Dev nD)) {off : Fin 2 → ℕ} {inb} (hoff : off = ![1024 * p.val, 0]) {v : Vec F S1024x512 .f32} (hv : v = outBlk m c p) {hx hm} {α : Type} {Q : α → sProp 𝕄} {k : PUnit → Prog (TpuEff nD τ sig (Elt F) Λ₀ .tc) α} :
    Out m c S
      ⊢ iprop((Out m c (insert p S) -∗ wp frame (wpE (defs₀ (F := F)) 𝒱₀ (c : Thread nD τ) none) Set.univ (k ⟨⟩) Q)
          -∗ wp frame (wpE (defs₀ (F := F)) 𝒱₀ (c : Thread nD τ) none) Set.univ
            (.op (.store oM (Rect.unit (s := S4096x512) off S1024x512.size inb) v Finset.univ hx hm) k) Q) := by
  unfold Out
  iintro ⟨%f, %hf, H⟩ Hk
  iapply (wp_store 𝒱₀ (c : Thread nD τ) none Set.univ (m := oM) (r := Rect.unit (s := S4096x512) off S1024x512.size inb) (Mk := Finset.univ) (Finset.subset_univ _)) $$ H
  iintro H
  iapply Hk
  iexists _
  isplitr; · ipureintro; exact oAt_store m c p S off inb hoff f hf v hv
  iexact H

end Cert.Exchange

end
-- ==== Proof.Rows.lean ====
/-
The exchange of the maxima: a device sends its row to the three others, waits for theirs, and reads all four.
-/
module

public import proofs.«01_k».proof.Proof.Pieces

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Cx → ℕ) (c : Dev nD) (i : grid0.Coords)
variable (X : Memref sig .tc .vmem S1024x4096 .bf16) (hX : X.IsWhole) (M : Memref sig .tc .vmem S4096x512 .bf16) (hM : M.IsWhole)
  (hO : oM.IsWhole) (hy : yM.IsWhole) (ha : aM.IsWhole) (hs : sM.IsWhole) (hr : rM.IsWhole) (v2 : BitVec 32)

/-! ## The rows sent -/

/-- The row goes to the device one place on. -/
theorem part2_run (h4 : k0_cond4 i = 1#1) (l : List (GSem nD τ sig × ℕ)) (fd : Vec F S4x128 .f32) {Q : _ → sProp 𝕄} :
    iprop(recs m K ∗ Owes c ((dcell 1 (peer c 0) 0, NA) :: l) ∗ aPts c 0 (lent 0) (ab m c) ∗ aPts (peer c 0) 1 fullShare fd ∗ tok 0 c 0 ∗ tok 1 (peer c 0) 0)
      ⊢ iprop((∀ r, (crd c (some (0, 0)) NA ∗ Owes c l) -∗ Q r)
          -∗ wp frame (wpE (defs₀ (F := F)) 𝒱₀ (c : Thread nD τ) none) Set.univ (k0_part2 (F := F) i X hX M hM oM hO yM hy aM ha sM hs rM hr cc0_scratch4 cc0_scratch5 cc0_scratch6 cc0_scratch7 c v2 h4) Q) := by
  rw [k0_part2_eq_skeleton]; unfold k0_part2_skel
  simp only [Prog.lift, Prog.bind_op, Prog.bind_ret, Prog.pure_eq_ret]
  iintro ⟨#HR, HO, Ha, Hd, Ht0, Ht1⟩ Hk
  iapply (step_send_row m K c _ 0 (dev4_eq c _) 1 rfl _ _ l fd) $$ [HO Ha Hd Ht0 Ht1]
  · isplitr; · iexact HR
    isplitl [HO]; · iexact HO
    isplitl [Ha]; · iexact Ha
    isplitl [Hd]; · iexact Hd
    isplitl [Ht0] <;> iassumption
  iintro H
  rw [wp_ret]; imodintro
  iapply Hk; iexact H

/-- The row goes to the devices two and three places on. -/
theorem part3_run (h4 : k0_cond4 i = 1#1) (w1 w2 w3 : BitVec 32) (l : List (GSem nD τ sig × ℕ)) (fd fd' : Vec F S4x128 .f32) {Q : _ → sProp 𝕄} :
    iprop(recs m K ∗ Owes c ((dcell 1 (peer c 1) 1, NA) :: (dcell 1 (peer c 2) 2, NA) :: l)
        ∗ (aPts c 0 (lent 1) (ab m c) ∗ aPts (peer c 1) 2 fullShare fd ∗ tok 0 c 1 ∗ tok 1 (peer c 1) 1)
        ∗ (aPts c 0 (lent 2) (ab m c) ∗ aPts (peer c 2) 3 fullShare fd' ∗ tok 0 c 2 ∗ tok 1 (peer c 2) 2))
      ⊢ iprop((∀ r, (crd c (some (0, 1)) NA ∗ crd c (some (0, 2)) NA ∗ Owes c l) -∗ Q r)
          -∗ wp frame (wpE (defs₀ (F := F)) 𝒱₀ (c : Thread nD τ) none) Set.univ (k0_part3 (F := F) i X hX M hM oM hO yM hy aM ha sM hs rM hr cc0_scratch4 cc0_scratch5 cc0_scratch6 cc0_scratch7 c v2 h4 w1 w2 w3) Q) := by
  rw [k0_part3_eq_skeleton]; unfold k0_part3_skel
  simp only [Prog.lift, Prog.bind_op, Prog.bind_ret, Prog.pure_eq_ret]
  iintro ⟨#HR, HO, ⟨Ha, Hd, Ht0, Ht1⟩, ⟨Ha', Hd', Ht0', Ht1'⟩⟩ Hk
  iapply (step_send_row m K c _ 1 (dev5_eq c _) 2 rfl _ _ _ fd) $$ [HO Ha Hd Ht0 Ht1]
  · isplitr; · iexact HR
    isplitl [HO]; · iexact HO
    isplitl [Ha]; · iexact Ha
    isplitl [Hd]; · iexact Hd
    isplitl [Ht0] <;> iassumption
  iintro ⟨Hc, HO⟩
  iapply (step_send_row m K c _ 2 (dev6_eq c _) 3 rfl _ _ l fd') $$ [HO Ha' Hd' Ht0' Ht1']
  · isplitr; · iexact HR
    isplitl [HO]; · iexact HO
    isplitl [Ha']; · iexact Ha'
    isplitl [Hd']; · iexact Hd'
    isplitl [Ht0'] <;> iassumption
  iintro ⟨Hc', HO⟩
  rw [wp_ret]; imodintro
  iapply Hk
  isplitl [Hc]; · iexact Hc
  isplitl [Hc'] <;> iassumption

/-! ## The rows received -/

/-- The rows of the three others come in, and the scale and its inverse are computed from all four. -/
theorem part4_run (w1 w2 : BitVec 32) {Q : _ → sProp 𝕄} :
    iprop(recs m K ∗ Owes c (due2 c) ∗ aPts c 0 kept (ab m c)
        ∗ (crd c (some (1, 0)) NA ∗ at0 c (some (1, 0))) ∗ (crd c (some (1, 1)) NA ∗ at0 c (some (1, 1))) ∗ (crd c (some (1, 2)) NA ∗ at0 c (some (1, 2))))
      ⊢ iprop((∀ v125 v1 v126 v3, (Owes c (due2 c) ∗ at1 c (some (1, 0)) ∗ at1 c (some (1, 1)) ∗ at1 c (some (1, 2))
              ∗ aPts c 0 kept (ab m c) ∗ aPts c 1 fullShare (ab m c) ∗ aPts c 2 fullShare (ab m c) ∗ aPts c 3 fullShare (ab m c))
            -∗ Q ⟨k0_pay7 (ab m c), k0_pay8 (ab m c), v125, v1, v126, v3⟩)
          -∗ wp frame (wpE (defs₀ (F := F)) 𝒱₀ (c : Thread nD τ) none) Set.univ (k0_part4 (F := F) i X hX M hM oM hO yM hy aM ha sM hs rM hr cc0_scratch4 cc0_scratch5 cc0_scratch6 cc0_scratch7 v2 w1 w2) Q) := by
  rw [k0_part4_eq_skeleton]; unfold k0_part4_skel
  simp only [Prog.lift, Prog.bind_op, Prog.bind_ret, Prog.pure_eq_ret]
  iintro ⟨#HR, HO, Ha0, ⟨Hc0, Hp0⟩, ⟨Hc1, Hp1⟩, ⟨Hc2, Hp2⟩⟩ Hk
  iapply (step_wait m K c 1 0 (due2 c) (due2_above c 2 (by decide)) (by rfl)) $$ [HO Hc0 Hp0]
  · isplitr; · iexact HR
    isplitl [HO]; · iexact HO
    isplitl [Hc0]; · iexact Hc0
    iexact Hp0
  iintro ⟨HO, Hp0, Ha1⟩
  iapply (step_wait m K c 1 1 (due2 c) (due2_above c 2 (by decide)) (by rfl)) $$ [HO Hc1 Hp1]
  · isplitr; · iexact HR
    isplitl [HO]; · iexact HO
    isplitl [Hc1]; · iexact Hc1
    iexact Hp1
  iintro ⟨HO, Hp1, Ha2⟩
  iapply (step_wait m K c 1 2 (due2 c) (due2_above c 2 (by decide)) (by rfl)) $$ [HO Hc2 Hp2]
  · isplitr; · iexact HR
    isplitl [HO]; · iexact HO
    isplitl [Hc2]; · iexact Hc2
    iexact Hp2
  iintro ⟨HO, Hp2, Ha3⟩
  ihave H1 := ((pay_1 m c 0 1 rfl).trans (aShares c 1 (ab m c)).1) $$ Ha1
  icases H1 with ⟨Hx1, Hy1, Hz1, Ha1⟩
  ihave H2 := ((pay_1 m c 1 2 rfl).trans (aShares c 2 (ab m c)).1) $$ Ha2
  icases H2 with ⟨Hx2, Hy2, Hz2, Ha2⟩
  ihave H3 := ((pay_1 m c 2 3 rfl).trans (aShares c 3 (ab m c)).1) $$ Ha3
  icases H3 with ⟨Hx3, Hy3, Hz3, Ha3⟩
  iapply (load_rows c _ kept (ab m c)) $$ [Ha0 Ha1 Ha2 Ha3]
  · isplitl [Ha0]; · iexact Ha0
    isplitl [Ha1]; · iexact Ha1
    isplitl [Ha2] <;> iassumption
  iintro ⟨Ha0, Ha1, Ha2, Ha3⟩
  rw [wp_ret]; imodintro
  iapply Hk
  isplitl [HO]; · iexact HO
  isplitl [Hp0]; · iexact Hp0
  isplitl [Hp1]; · iexact Hp1
  isplitl [Hp2]; · iexact Hp2
  isplitl [Ha0]; · iexact Ha0
  isplitl [Hx1 Hy1 Hz1 Ha1]
  · iapply (aShares c 1 (ab m c)).2
    isplitl [Hx1]; · iexact Hx1
    isplitl [Hy1]; · iexact Hy1
    isplitl [Hz1] <;> iassumption
  isplitl [Hx2 Hy2 Hz2 Ha2]
  · iapply (aShares c 2 (ab m c)).2
    isplitl [Hx2]; · iexact Hx2
    isplitl [Hy2]; · iexact Hy2
    isplitl [Hz2] <;> iassumption
  · iapply (aShares c 3 (ab m c)).2
    isplitl [Hx3]; · iexact Hx3
    isplitl [Hy3]; · iexact Hy3
    isplitl [Hz3] <;> iassumption

end Cert.Exchange

end
-- ==== Proof.Blocks.lean ====
/-
The blocks sent: a device quantises the three blocks of its product meant for the others and sends each.
-/
module

public import proofs.«01_k».proof.Proof.Rows

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Cx → ℕ) (c : Dev nD) (i : grid0.Coords)
variable (X : Memref sig .tc .vmem S1024x4096 .bf16) (hX : X.IsWhole) (M : Memref sig .tc .vmem S4096x512 .bf16) (hM : M.IsWhole)
  (hO : oM.IsWhole) (hy : yM.IsWhole) (ha : aM.IsWhole) (hs : sM.IsWhole) (hr : rM.IsWhole) (v2 : BitVec 32)

/-- The block for the device one place on is quantised and sent, -/
theorem part5_run (h4 : k0_cond4 i = 1#1) (w1 w2 : BitVec 32) (w3 : BitVec 1) (w4 : BitVec 32) (l : List (GSem nD τ sig × ℕ)) (fs fd : Vec F S4x1024x512 .fp8e4m3) {Q : _ → sProp 𝕄} :
    iprop(recs m K ∗ Owes c ((dcell 3 (peer c 0) 0, NB) :: l) ∗ Y m c 4 ∗ sPts c 1 fs ∗ rPts (peer c 0) 1 fd ∗ tok 2 c 0 ∗ tok 3 (peer c 0) 0)
      ⊢ iprop((∀ r, (crd c (some (2, 0)) NB ∗ Owes c l ∗ Y m c 4) -∗ Q r)
          -∗ wp frame (wpE (defs₀ (F := F)) 𝒱₀ (c : Thread nD τ) none) Set.univ (k0_part5 (F := F) i X hX M hM oM hO yM hy aM ha sM hs rM hr cc0_scratch4 cc0_scratch5 cc0_scratch6 cc0_scratch7 c v2 h4 (k0_pay8 (ab m c)) w1 w2 w3 w4) Q) := by
  rw [k0_part5_eq_skeleton]; unfold k0_part5_skel
  simp only [Prog.lift, Prog.bind_op, Prog.bind_ret, Prog.pure_eq_ret]
  iintro ⟨#HR, HO, HY, Hs, Hd, Ht0, Ht1⟩ Hk
  iapply (load_yblk m c (fwd c 1).val (fwd c 1).isLt (off2_eq1 c)) $$ HY; iintro HY
  iapply (load_sSlab c 1 _ fs) $$ Hs; iintro Hs
  iapply (store_sSlab m c 1 _ fs (v := k0_pay9 (k0_pay8 (ab m c)) (yblk m c (fwd c 1).val)) rfl) $$ Hs; iintro Hs
  iapply (step_send_slab m K c _ 0 (dev7_eq c _) 1 rfl _ _ l fd) $$ [HO Hs Hd Ht0 Ht1]
  · isplitr; · iexact HR
    isplitl [HO]; · iexact HO
    isplitl [Hs]; · iexact Hs
    isplitl [Hd]; · iexact Hd
    isplitl [Ht0] <;> iassumption
  iintro ⟨Hc, HO⟩
  rw [wp_ret]; imodintro
  iapply Hk
  isplitl [Hc]; · iexact Hc
  isplitl [HO] <;> iassumption

/-- the one for two places on, -/
theorem part6_run (h4 : k0_cond4 i = 1#1) (w1 w2 : BitVec 32) (w3 : BitVec 1) (w4 : BitVec 32) (l : List (GSem nD τ sig × ℕ)) (fs fd : Vec F S4x1024x512 .fp8e4m3) {Q : _ → sProp 𝕄} :
    iprop(recs m K ∗ Owes c ((dcell 3 (peer c 1) 1, NB) :: l) ∗ Y m c 4 ∗ sPts c 2 fs ∗ rPts (peer c 1) 2 fd ∗ tok 2 c 1 ∗ tok 3 (peer c 1) 1)
      ⊢ iprop((∀ r, (crd c (some (2, 1)) NB ∗ Owes c l ∗ Y m c 4) -∗ Q r)
          -∗ wp frame (wpE (defs₀ (F := F)) 𝒱₀ (c : Thread nD τ) none) Set.univ (k0_part6 (F := F) i X hX M hM oM hO yM hy aM ha sM hs rM hr cc0_scratch4 cc0_scratch5 cc0_scratch6 cc0_scratch7 c v2 h4 (k0_pay8 (ab m c)) w1 w2 w3 w4) Q) := by
  rw [k0_part6_eq_skeleton]; unfold k0_part6_skel
  simp only [Prog.lift, Prog.bind_op, Prog.bind_ret, Prog.pure_eq_ret]
  iintro ⟨#HR, HO, HY, Hs, Hd, Ht0, Ht1⟩ Hk
  iapply (load_yblk m c (fwd c 2).val (fwd c 2).isLt (off2_eq2 c)) $$ HY; iintro HY
  iapply (load_sSlab c 2 _ fs) $$ Hs; iintro Hs
  iapply (store_sSlab m c 2 _ fs (v := k0_pay10 (k0_pay8 (ab m c)) (yblk m c (fwd c 2).val)) rfl) $$ Hs; iintro Hs
  iapply (step_send_slab m K c _ 1 (dev8_eq c _) 2 rfl _ _ l fd) $$ [HO Hs Hd Ht0 Ht1]
  · isplitr; · iexact HR
    isplitl [HO]; · iexact HO
    isplitl [Hs]; · iexact Hs
    isplitl [Hd]; · iexact Hd
    isplitl [Ht0] <;> iassumption
  iintro ⟨Hc, HO⟩
  rw [wp_ret]; imodintro
  iapply Hk
  isplitl [Hc]; · iexact Hc
  isplitl [HO] <;> iassumption

/-- and the one for three places on. -/
theorem part7_run (h4 : k0_cond4 i = 1#1) (w1 w2 : BitVec 32) (w3 : BitVec 1) (w4 : BitVec 32) (l : List (GSem nD τ sig × ℕ)) (fs fd : Vec F S4x1024x512 .fp8e4m3) {Q : _ → sProp 𝕄} :
    iprop(recs m K ∗ Owes c ((dcell 3 (peer c 2) 2, NB) :: l) ∗ Y m c 4 ∗ sPts c 3 fs ∗ rPts (peer c 2) 3 fd ∗ tok 2 c 2 ∗ tok 3 (peer c 2) 2)
      ⊢ iprop((∀ w, (crd c (some (2, 2)) NB ∗ Owes c l ∗ Y m c 4) -∗ Q ⟨w, yblk m c c.val, k0_pay12 (k0_pay8 (ab m c))⟩)
          -∗ wp frame (wpE (defs₀ (F := F)) 𝒱₀ (c : Thread nD τ) none) Set.univ (k0_part7 (F := F) i X hX M hM oM hO yM hy aM ha sM hs rM hr cc0_scratch4 cc0_scratch5 cc0_scratch6 cc0_scratch7 c v2 h4 (k0_pay8 (ab m c)) w1 w2 w3 w4) Q) := by
  rw [k0_part7_eq_skeleton]; unfold k0_part7_skel
  simp only [Prog.lift, Prog.bind_op, Prog.bind_ret, Prog.pure_eq_ret]
  iintro ⟨#HR, HO, HY, Hs, Hd, Ht0, Ht1⟩ Hk
  iapply (load_yblk m c (fwd c 3).val (fwd c 3).isLt (off2_eq3 c)) $$ HY; iintro HY
  iapply (load_sSlab c 3 _ fs) $$ Hs; iintro Hs
  iapply (store_sSlab m c 3 _ fs (v := k0_pay11 (k0_pay8 (ab m c)) (yblk m c (fwd c 3).val)) rfl) $$ Hs; iintro Hs
  iapply (step_send_slab m K c _ 2 (dev9_eq c _) 3 rfl _ _ l fd) $$ [HO Hs Hd Ht0 Ht1]
  · isplitr; · iexact HR
    isplitl [HO]; · iexact HO
    isplitl [Hs]; · iexact Hs
    isplitl [Hd]; · iexact Hd
    isplitl [Ht0] <;> iassumption
  iintro ⟨Hc, HO⟩
  iapply (load_yblk m c c.val c.isLt (k0_off3_eq c)) $$ HY; iintro HY
  rw [wp_ret]; imodintro
  iapply Hk
  isplitl [Hc]; · iexact Hc
  isplitl [HO] <;> iassumption

end Cert.Exchange

end
-- ==== Proof.Early.lean ====
/-
The grid points before the last: the barrier at the first; at each, a column block of the product stored and the row of
maxima brought up to date.
-/
module

public import proofs.«01_k».proof.Proof.Blocks

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Cx → ℕ) (c : Dev nD) (i : grid0.Coords)
variable (X : Memref sig .tc .vmem S1024x4096 .bf16) (hX : X.IsWhole) (M : Memref sig .tc .vmem S4096x512 .bf16) (hM : M.IsWhole)
  (hO : oM.IsWhole) (hy : yM.IsWhole) (ha : aM.IsWhole) (hs : sM.IsWhole) (hr : rM.IsWhole)

/-- A load of all of `N` from `W` reads `v`. -/
def Loads {s : Shape} {e : EltTy} (N : Memref sig .tc .vmem s e) (r : LoadRect s) (W : sProp 𝕄) (v : r.shape.Idx → Elt F e) : Prop :=
  ∀ {α : Type} {Q : α → sProp 𝕄} {k : (r.shape.Idx → Elt F e) → Prog (TpuEff nD τ sig (Elt F) Λ₀ .tc) α} {hl},
    W ⊢ iprop((W -∗ wp frame (wpE (defs₀ (F := F)) 𝒱₀ (c : Thread nD τ) none) Set.univ (k v) Q)
      -∗ wp frame (wpE (defs₀ (F := F)) 𝒱₀ (c : Thread nD τ) none) Set.univ (.op (.load N r hl) k) Q)

/-- The load of all of `x`'s staging, -/
abbrev xLoad : LoadRect S1024x4096 := (Rect.unit (s := S1024x4096) ![0, 0] S1024x4096.size inb_S1024x4096_S1024x4096_0_0).toLoadRect
/-- and of `w`'s. -/
abbrev wLoad : LoadRect S4096x512 := (Rect.unit (s := S4096x512) ![0, 0] S4096x512.size inb_S4096x512_S4096x512_0_0).toLoadRect

/-- The kernel's tests of its grid point. -/
theorem cond1_iff (i : grid0.Coords) : k0_cond1 i = 1#1 ↔ (i 0).val = 0 := by revert i; decide
/-- The branch of the first point is taken there alone, -/
theorem cond2_iff (i : grid0.Coords) : Scalar.cmpi .ne (Scalar.extui (Scalar.cmpi .eq (BitVec.ofNat 32 (i 0).val) 0#32) : BitVec 32) 0#32 = 1#1 ↔ (i 0).val = 0 := by revert i; decide
/-- that of the later points after it, -/
theorem cond3_iff (i : grid0.Coords) : Scalar.cmpi .ne (Scalar.extui (Scalar.cmpi .sgt (BitVec.ofNat 32 (i 0).val) 0#32) : BitVec 32) 0#32 = 1#1 ↔ (i 0).val ≠ 0 := by revert i; decide
/-- and the exchange at the last. -/
theorem cond4_iff (i : grid0.Coords) : k0_cond4 i = 1#1 ↔ (i 0).val = 3 := by revert i; decide

/-- What every device has at hand before its first point: its places in the launch's rounds. -/
def ready : sProp 𝕄 :=
  iprop(tokBar (F := F) c 0 ∗ tokBar c 1 ∗ tokBar c 2 ∗ crd c none 3 ∗ at0 c none)
/-- What the barrier gives it: the others' landing places. -/
def met : sProp 𝕄 := iprop(at1 (F := F) c none ∗ barPay c 0 ∗ barPay c 1 ∗ barPay c 2)

/-- The first point: raise the three other barriers, giving away one's own landing places; wait for one's own; then
    the first column block. -/
theorem first_run (hi : (i 0).val = 0) {WX WM : sProp 𝕄} (hldX : Loads c X xLoad WX (xb m c)) (hldM : Loads c M wLoad WM (wb m c 0))
    (fa : Vec F S4x128 .f32) (fr : Vec F S4x1024x512 .fp8e4m3) {Q : PUnit → sProp 𝕄} :
    iprop(recs m K ∗ Owes c (due0 c) ∗ ready c ∗ WX ∗ WM ∗ Y m c 0
        ∗ ((c : Thread nD τ).loc cc0_scratch1 ↦{fullShare} fa) ∗ ((c : Thread nD τ).loc cc0_scratch3 ↦{fullShare} fr))
      ⊢ iprop(((Owes c (due1 c) ∗ met c ∗ WX ∗ WM ∗ Y m c 1 ∗ aPts c 0 fullShare (rowOf (rowMax m c 0)) ∗ rPts c 0 fr) -∗ Q ⟨⟩)
          -∗ wp frame (wpE (defs₀ (F := F)) 𝒱₀ (c : Thread nD τ) none) Set.univ (cc0_body (F := F) i X hX M hM oM hO yM hy aM ha sM hs rM hr cc0_scratch4 cc0_scratch5 cc0_scratch6 cc0_scratch7) Q) := by
  have hj : (0 : ℕ) < 4 := by decide
  have h1 := (cond1_iff i).mpr hi
  have h2 := (cond2_iff i).mpr hi
  have h3 := (not_congr (cond3_iff i)).mpr (by omega)
  have h4 := (not_congr (cond4_iff i)).mpr (by omega)
  rw [cc0_body_eq_skeleton]; unfold cc0_body_skel
  simp only [dif_pos h1, dif_pos h2, dif_neg h3, dif_neg h4, k0_part1_eq_skeleton]; unfold k0_part1_skel
  simp only [semSignalWord, semWaitWord, Prog.lift, Prog.bind_op, Prog.bind_ret, Prog.pure_eq_ret, wp_deviceId]
  rw [aRows, rSlabs]; unfold ready due0 met
  iintro ⟨#HR, HO, ⟨Ht0, Ht1, Ht2, Hc, Hat⟩, HX, HM, HY, ⟨Ha0, Ha1, Ha2, Ha3⟩, ⟨Hr0, Hr1, Hr2, Hr3⟩⟩ Hk
  iapply (step_signal m K c _ 0 (dev1_eq c _) (by decide) _ fa fr) $$ [HO Ht0 Ha3 Hr3]
  · isplitr; · iexact HR
    isplitl [HO]; · iexact HO
    isplitl [Ht0]; · iexact Ht0
    isplitl [Ha3]; · iexact Ha3
    iexact Hr3
  iintro HO
  iapply (step_signal m K c _ 1 (dev2_eq c _) (by decide) _ fa fr) $$ [HO Ht1 Ha2 Hr2]
  · isplitr; · iexact HR
    isplitl [HO]; · iexact HO
    isplitl [Ht1]; · iexact Ht1
    isplitl [Ha2]; · iexact Ha2
    iexact Hr2
  iintro HO
  iapply (step_signal m K c _ 2 (dev3_eq c _) (by decide) _ fa fr) $$ [HO Ht2 Ha1 Hr1]
  · isplitr; · iexact HR
    isplitl [HO]; · iexact HO
    isplitl [Ht2]; · iexact Ht2
    isplitl [Ha1]; · iexact Ha1
    iexact Hr1
  iintro HO
  iapply (step_wait_bar m K c (by decide) _ (due1_above c 1 (by decide))) $$ [HO Hc Hat]
  · isplitr; · iexact HR
    isplitl [HO]; · iexact HO
    isplitl [Hc]; · iexact Hc
    iexact Hat
  iintro ⟨HO, Hm⟩
  iapply hldX $$ HX; iintro HX
  iapply hldM $$ HM; iintro HM
  iapply (load_y m c (0)) $$ HY; iintro %_ HY
  iapply (store_y m c (0) hj (by rw [k0_off1_eq, hi]) rfl) $$ HY; iintro HY
  iapply (load_row0 c _ fa) $$ Ha0; iintro Ha0
  iapply (store_row0 c _ fa _) $$ Ha0; iintro Ha0
  rw [wp_ret]; imodintro
  iapply Hk
  isplitl [HO]; · iexact HO
  isplitl [Hm]; · iexact Hm
  isplitl [HX]; · iexact HX
  isplitl [HM]; · iexact HM
  isplitl [HY]; · iexact HY
  isplitl [Ha0]; · iexact Ha0
  iexact Hr0

/-- The next points: a column block more, and the maxima so far. -/
theorem next_run (j : ℕ) (hi : (i 0).val = j + 1) (hj' : j < 2) {WX WM : sProp 𝕄} (hldX : Loads c X xLoad WX (xb m c)) (hldM : Loads c M wLoad WM (wb m c (j + 1)))
    {Q : PUnit → sProp 𝕄} :
    iprop(WX ∗ WM ∗ Y m c (j + 1) ∗ aPts c 0 fullShare (rowOf (rowMax m c j)))
      ⊢ iprop(((WX ∗ WM ∗ Y m c (j + 2) ∗ aPts c 0 fullShare (rowOf (rowMax m c (j + 1)))) -∗ Q ⟨⟩)
          -∗ wp frame (wpE (defs₀ (F := F)) 𝒱₀ (c : Thread nD τ) none) Set.univ (cc0_body (F := F) i X hX M hM oM hO yM hy aM ha sM hs rM hr cc0_scratch4 cc0_scratch5 cc0_scratch6 cc0_scratch7) Q) := by
  have hj : j + 1 < 4 := by omega
  have h1 := (not_congr (cond1_iff i)).mpr (by omega)
  have h2 := (not_congr (cond2_iff i)).mpr (by omega)
  have h3 := (cond3_iff i).mpr (by omega)
  have h4 := (not_congr (cond4_iff i)).mpr (by omega)
  rw [cc0_body_eq_skeleton]; unfold cc0_body_skel
  simp only [dif_neg h1, dif_neg h2, dif_pos h3, dif_neg h4]
  simp only [Prog.lift, Prog.bind_op, Prog.bind_ret, Prog.pure_eq_ret, wp_deviceId]
  iintro ⟨HX, HM, HY, Ha0⟩ Hk
  iapply hldX $$ HX; iintro HX
  iapply hldM $$ HM; iintro HM
  iapply (load_y m c (j + 1)) $$ HY; iintro %_ HY
  iapply (store_y m c (j + 1) hj (by rw [k0_off1_eq, hi]) rfl) $$ HY; iintro HY
  iapply (load_row0 c _ _) $$ Ha0; iintro Ha0
  iapply (load_row0 c _ _) $$ Ha0; iintro Ha0
  rw [read_row0]
  iapply (store_row0 c _ _ _) $$ Ha0; iintro Ha0
  rw [wp_ret]; imodintro
  iapply Hk
  isplitl [HX]; · iexact HX
  isplitl [HM]; · iexact HM
  isplitl [HY]; · iexact HY
  iexact Ha0

end Cert.Exchange

end
-- ==== Proof.Results.lean ====
/-
The results: a device scales its own block and the three it receives into its result, then waits for its transfers to be sent.
-/
module

public import proofs.«01_k».proof.Proof.Blocks

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Cx → ℕ) (c : Dev nD) (i : grid0.Coords)
variable (X : Memref sig .tc .vmem S1024x4096 .bf16) (hX : X.IsWhole) (M : Memref sig .tc .vmem S4096x512 .bf16) (hM : M.IsWhole)
  (hO : oM.IsWhole) (hy : yM.IsWhole) (ha : aM.IsWhole) (hs : sM.IsWhole) (hr : rM.IsWhole) (v2 : BitVec 32)

/-- A device's own row block of its result is its own block, quantised and scaled in place. -/
theorem outBlk_own : k0_pay13 (k0_pay7 (ab m c)) (yblk m c c.val) (k0_pay12 (k0_pay8 (ab m c))) = outBlk m c c := by
  unfold outBlk; rw [if_pos rfl]
/-- The device one place back is another, -/
theorem back_ne1 (c : Dev nD) : back c 1 ≠ c := by revert c; decide
/-- so is the one two places back, -/
theorem back_ne2 (c : Dev nD) : back c 2 ≠ c := by revert c; decide
/-- and the one three back. -/
theorem back_ne3 (c : Dev nD) : back c 3 ≠ c := by revert c; decide
/-- The row block from another device is the block received, scaled. -/
theorem outBlk_recv (p : Dev nD) (hp : p ≠ c) : k0_pay16 (k0_pay7 (ab m c)) (qb m p c) = outBlk m c p := by
  unfold outBlk; rw [if_neg hp]

/-- Its own block scaled in place, and the block from the device before it received. -/
theorem part8_run (h4 : k0_cond4 i = 1#1) (w1 : BitVec 32) {Q : _ → sProp 𝕄} :
    iprop(recs m K ∗ Owes c [] ∗ Out m c ∅ ∗ crd c (some (3, 0)) NB ∗ at0 c (some (3, 0)))
      ⊢ iprop((∀ w, (Owes c [] ∗ Out m c (insert c ∅) ∗ at1 c (some (3, 0)) ∗ rPts c 1 (rAll m c)) -∗ Q ⟨w, k0_pay14 (qb m (back c 1) c)⟩)
          -∗ wp frame (wpE (defs₀ (F := F)) 𝒱₀ (c : Thread nD τ) none) Set.univ (k0_part8 (F := F) i X hX M hM oM hO yM hy aM ha sM hs rM hr cc0_scratch4 cc0_scratch5 cc0_scratch6 cc0_scratch7 c v2 h4 (k0_pay7 (ab m c)) w1 (yblk m c c.val) (k0_pay12 (k0_pay8 (ab m c)))) Q) := by
  rw [k0_part8_eq_skeleton]; unfold k0_part8_skel
  simp only [Prog.lift, Prog.bind_op, Prog.bind_ret, Prog.pure_eq_ret]
  iintro ⟨#HR, HO, HOut, Hc0, Hp0⟩ Hk
  iapply (load_out m c ∅) $$ HOut; iintro %_ HOut
  iapply (store_out m c c ∅ (k0_off4_eq c) (outBlk_own m c)) $$ HOut; iintro HOut
  iapply (step_wait m K c 3 0 [] (by simp) (by rfl)) $$ [HO Hc0 Hp0]
  · isplitr; · iexact HR
    isplitl [HO]; · iexact HO
    isplitl [Hc0]; · iexact Hc0
    iexact Hp0
  iintro ⟨HO, Hp0, Hr0⟩
  ihave Hr0 := (pay_3 m c 0 1 rfl) $$ Hr0
  iapply (load_rSlab m c 1 _) $$ Hr0; iintro Hr0
  rw [wp_ret]; imodintro
  iapply Hk
  isplitl [HO]; · iexact HO
  isplitl [HOut]; · iexact HOut
  isplitl [Hp0] <;> iassumption

/-- That block scaled, and the one from three places back received and scaled. -/
theorem part9_run (h4 : k0_cond4 i = 1#1) (w1 w2 : BitVec 32) {Q : _ → sProp 𝕄} :
    iprop(recs m K ∗ Owes c [] ∗ Out m c (insert c ∅) ∗ crd c (some (3, 2)) NB ∗ at0 c (some (3, 2)))
      ⊢ iprop((∀ w, (Owes c [] ∗ Out m c (insert (back c 3) (insert (back c 1) (insert c ∅))) ∗ at1 c (some (3, 2)) ∗ rPts c 3 (rAll m c)) -∗ Q w)
          -∗ wp frame (wpE (defs₀ (F := F)) 𝒱₀ (c : Thread nD τ) none) Set.univ (k0_part9 (F := F) i X hX M hM oM hO yM hy aM ha sM hs rM hr cc0_scratch4 cc0_scratch5 cc0_scratch6 cc0_scratch7 c v2 h4 (k0_pay7 (ab m c)) w1 w2 (k0_pay14 (qb m (back c 1) c))) Q) := by
  rw [k0_part9_eq_skeleton]; unfold k0_part9_skel
  simp only [Prog.lift, Prog.bind_op, Prog.bind_ret, Prog.pure_eq_ret]
  iintro ⟨#HR, HO, HOut, Hc2, Hp2⟩ Hk
  iapply (load_out m c (insert c ∅)) $$ HOut; iintro %_ HOut
  iapply (store_out m c (back c 1) (insert c ∅) (off5_eq1 c) (outBlk_recv m c _ (back_ne1 c))) $$ HOut; iintro HOut
  iapply (step_wait m K c 3 2 [] (by simp) (by rfl)) $$ [HO Hc2 Hp2]
  · isplitr; · iexact HR
    isplitl [HO]; · iexact HO
    isplitl [Hc2]; · iexact Hc2
    iexact Hp2
  iintro ⟨HO, Hp2, Hr2⟩
  ihave Hr2 := (pay_3 m c 2 3 rfl) $$ Hr2
  iapply (load_rSlab m c 3 _) $$ Hr2; iintro Hr2
  iapply (load_out m c (insert (back c 1) (insert c ∅))) $$ HOut; iintro %_ HOut
  iapply (store_out m c (back c 3) (insert (back c 1) (insert c ∅)) (off5_eq3 c) (outBlk_recv m c _ (back_ne3 c))) $$ HOut; iintro HOut
  rw [wp_ret]; imodintro
  iapply Hk
  isplitl [HO]; · iexact HO
  isplitl [HOut]; · iexact HOut
  isplitl [Hp2] <;> iassumption

/-- The block from two places back received and scaled: the result is whole. -/
theorem part10_run (h4 : k0_cond4 i = 1#1) (w1 w2 : BitVec 32) {Q : _ → sProp 𝕄} :
    iprop(recs m K ∗ Owes c [] ∗ Out m c (insert (back c 3) (insert (back c 1) (insert c ∅))) ∗ crd c (some (3, 1)) NB ∗ at0 c (some (3, 1)))
      ⊢ iprop((∀ w, (Owes c [] ∗ Out m c (insert (back c 2) (insert (back c 3) (insert (back c 1) (insert c ∅)))) ∗ at1 c (some (3, 1)) ∗ rPts c 2 (rAll m c)) -∗ Q w)
          -∗ wp frame (wpE (defs₀ (F := F)) 𝒱₀ (c : Thread nD τ) none) Set.univ (k0_part10 (F := F) i X hX M hM oM hO yM hy aM ha sM hs rM hr cc0_scratch4 cc0_scratch5 cc0_scratch6 cc0_scratch7 c v2 h4 (k0_pay7 (ab m c)) w1 w2) Q) := by
  rw [k0_part10_eq_skeleton]; unfold k0_part10_skel
  simp only [Prog.lift, Prog.bind_op, Prog.bind_ret, Prog.pure_eq_ret]
  iintro ⟨#HR, HO, HOut, Hc1, Hp1⟩ Hk
  iapply (step_wait m K c 3 1 [] (by simp) (by rfl)) $$ [HO Hc1 Hp1]
  · isplitr; · iexact HR
    isplitl [HO]; · iexact HO
    isplitl [Hc1]; · iexact Hc1
    iexact Hp1
  iintro ⟨HO, Hp1, Hr1⟩
  ihave Hr1 := (pay_3 m c 1 2 rfl) $$ Hr1
  iapply (load_rSlab m c 2 _) $$ Hr1; iintro Hr1
  iapply (load_out m c (insert (back c 3) (insert (back c 1) (insert c ∅)))) $$ HOut; iintro %_ HOut
  iapply (store_out m c (back c 2) (insert (back c 3) (insert (back c 1) (insert c ∅))) (off5_eq2 c) (outBlk_recv m c _ (back_ne2 c))) $$ HOut; iintro HOut
  rw [wp_ret]; imodintro
  iapply Hk
  isplitl [HO]; · iexact HO
  isplitl [HOut]; · iexact HOut
  isplitl [Hp1] <;> iassumption

/-- The waits for the rows sent and the first block sent: what was lent comes back. -/
theorem part11_run {Q : _ → sProp 𝕄} :
    iprop(recs m K ∗ Owes c [] ∗ (crd c (some (0, 0)) NA ∗ at0 c (some (0, 0))) ∗ (crd c (some (0, 1)) NA ∗ at0 c (some (0, 1)))
        ∗ (crd c (some (0, 2)) NA ∗ at0 c (some (0, 2))) ∗ (crd c (some (2, 0)) NB ∗ at0 c (some (2, 0))))
      ⊢ iprop((∀ w, (Owes c [] ∗ at1 c (some (0, 0)) ∗ at1 c (some (0, 1)) ∗ at1 c (some (0, 2)) ∗ at1 c (some (2, 0))
              ∗ aPts c 0 (lent 0) (ab m c) ∗ aPts c 0 (lent 1) (ab m c) ∗ aPts c 0 (lent 2) (ab m c) ∗ sPts c 1 (sAll m c)) -∗ Q w)
          -∗ wp frame (wpE (defs₀ (F := F)) 𝒱₀ (c : Thread nD τ) none) Set.univ (k0_part11 (F := F) i X hX M hM oM hO yM hy aM ha sM hs rM hr cc0_scratch4 cc0_scratch5 cc0_scratch6 cc0_scratch7) Q) := by
  rw [k0_part11_eq_skeleton]; unfold k0_part11_skel
  simp only [Prog.lift, Prog.bind_op, Prog.bind_ret, Prog.pure_eq_ret]
  iintro ⟨#HR, HO, ⟨Hc0, Hp0⟩, ⟨Hc1, Hp1⟩, ⟨Hc2, Hp2⟩, ⟨HcB, HpB⟩⟩ Hk
  iapply (step_wait m K c 0 0 [] (by simp) (by rfl)) $$ [HO Hc0 Hp0]
  · isplitr; · iexact HR
    isplitl [HO]; · iexact HO
    isplitl [Hc0]; · iexact Hc0
    iexact Hp0
  iintro ⟨HO, Hp0, Hr0⟩
  iapply (step_wait m K c 0 1 [] (by simp) (by rfl)) $$ [HO Hc1 Hp1]
  · isplitr; · iexact HR
    isplitl [HO]; · iexact HO
    isplitl [Hc1]; · iexact Hc1
    iexact Hp1
  iintro ⟨HO, Hp1, Hr1⟩
  iapply (step_wait m K c 0 2 [] (by simp) (by rfl)) $$ [HO Hc2 Hp2]
  · isplitr; · iexact HR
    isplitl [HO]; · iexact HO
    isplitl [Hc2]; · iexact Hc2
    iexact Hp2
  iintro ⟨HO, Hp2, Hr2⟩
  iapply (step_wait m K c 2 0 [] (by simp) (by rfl)) $$ [HO HcB HpB]
  · isplitr; · iexact HR
    isplitl [HO]; · iexact HO
    isplitl [HcB]; · iexact HcB
    iexact HpB
  iintro ⟨HO, HpB, HrB⟩
  ihave Hr0 := (pay_0 m c 0) $$ Hr0
  ihave Hr1 := (pay_0 m c 1) $$ Hr1
  ihave Hr2 := (pay_0 m c 2) $$ Hr2
  ihave HrB := (pay_2 m c 0 1 rfl) $$ HrB
  rw [wp_ret]; imodintro
  iapply Hk
  isplitl [HO]; · iexact HO
  isplitl [Hp0]; · iexact Hp0
  isplitl [Hp1]; · iexact Hp1
  isplitl [Hp2]; · iexact Hp2
  isplitl [HpB]; · iexact HpB
  isplitl [Hr0]; · iexact Hr0
  isplitl [Hr1]; · iexact Hr1
  isplitl [Hr2] <;> iassumption

end Cert.Exchange

end
-- ==== Proof.Last.lean ====
/-
The last grid point: the last column block, then the exchange of the row maxima and of the quantised blocks, and the
result.
-/
module

public import proofs.«01_k».proof.Proof.Early
public import proofs.«01_k».proof.Proof.Results

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Cx → ℕ) (c : Dev nD) (i : grid0.Coords)
variable (X : Memref sig .tc .vmem S1024x4096 .bf16) (hX : X.IsWhole) (M : Memref sig .tc .vmem S4096x512 .bf16) (hM : M.IsWhole)
  (hO : oM.IsWhole) (hy : yM.IsWhole) (ha : aM.IsWhole) (hs : sM.IsWhole) (hr : rM.IsWhole)

/-- What a device keeps for the exchanges: the tokens of the transfers it starts, -/
def toks : sProp 𝕄 :=
  iprop((tok (F := F) 0 c 0 ∗ tok 1 (peer c 0) 0 ∗ tok 2 c 0 ∗ tok 3 (peer c 0) 0)
    ∗ (tok (F := F) 0 c 1 ∗ tok 1 (peer c 1) 1 ∗ tok 2 c 1 ∗ tok 3 (peer c 1) 1)
    ∗ (tok (F := F) 0 c 2 ∗ tok 1 (peer c 2) 2 ∗ tok 2 c 2 ∗ tok 3 (peer c 2) 2))
/-- its places at its transfer semaphores before it waits for them, with the credit to wait for what it is sent, -/
def before : sProp 𝕄 :=
  iprop((at0 (F := F) c (some (0, 0)) ∗ (crd c (some (1, 0)) NA ∗ at0 c (some (1, 0))) ∗ at0 c (some (2, 0)) ∗ (crd c (some (3, 0)) NB ∗ at0 c (some (3, 0))))
    ∗ (at0 (F := F) c (some (0, 1)) ∗ (crd c (some (1, 1)) NA ∗ at0 c (some (1, 1))) ∗ at0 c (some (2, 1)) ∗ (crd c (some (3, 1)) NB ∗ at0 c (some (3, 1))))
    ∗ (at0 (F := F) c (some (0, 2)) ∗ (crd c (some (1, 2)) NA ∗ at0 c (some (1, 2))) ∗ at0 c (some (2, 2)) ∗ (crd c (some (3, 2)) NB ∗ at0 c (some (3, 2)))))
/-- and afterwards. -/
def after : sProp 𝕄 :=
  iprop((at1 (F := F) c (some (0, 0)) ∗ at1 (F := F) c (some (1, 0)) ∗ at1 (F := F) c (some (2, 0)) ∗ at1 (F := F) c (some (3, 0)))
    ∗ (at1 (F := F) c (some (0, 1)) ∗ at1 (F := F) c (some (1, 1)) ∗ at1 (F := F) c (some (2, 1)) ∗ at1 (F := F) c (some (3, 1)))
    ∗ (at1 (F := F) c (some (0, 2)) ∗ at1 (F := F) c (some (1, 2)) ∗ at1 (F := F) c (some (2, 2)) ∗ at1 (F := F) c (some (3, 2))))

/-- The last point. -/
theorem last_run (hi : (i 0).val = 3) {WX WM : sProp 𝕄} (hldX : Loads c X xLoad WX (xb m c)) (hldM : Loads c M wLoad WM (wb m c 3))
    (fs fr : Vec F S4x1024x512 .fp8e4m3) {Q : PUnit → sProp 𝕄} :
    iprop(recs m K ∗ Owes c (due1 c) ∗ (barPay c 0 ∗ barPay c 1 ∗ barPay c 2) ∗ toks c ∗ before c ∗ WX ∗ WM ∗ Y m c 3
        ∗ aPts c 0 fullShare (rowOf (rowMax m c 2)) ∗ ((c : Thread nD τ).loc cc0_scratch2 ↦{fullShare} fs) ∗ rPts c 0 fr ∗ Out m c ∅)
      ⊢ iprop(((Owes c [] ∗ after c ∗ WX ∗ WM ∗ Y m c 4 ∗ ((c : Thread nD τ).loc cc0_scratch1 ↦{fullShare} ab m c)
              ∗ (∃ g, (c : Thread nD τ).loc cc0_scratch2 ↦{fullShare} g) ∗ (∃ g, (c : Thread nD τ).loc cc0_scratch3 ↦{fullShare} g) ∗ Out m c (insert (back c 2) (insert (back c 3) (insert (back c 1) (insert c ∅))))) -∗ Q ⟨⟩)
          -∗ wp frame (wpE (defs₀ (F := F)) 𝒱₀ (c : Thread nD τ) none) Set.univ (cc0_body (F := F) i X hX M hM oM hO yM hy aM ha sM hs rM hr cc0_scratch4 cc0_scratch5 cc0_scratch6 cc0_scratch7) Q) := by
  have hj : (3 : ℕ) < 4 := by decide
  have h1 := (not_congr (cond1_iff i)).mpr (by omega)
  have h2 := (not_congr (cond2_iff i)).mpr (by omega)
  have h3 := (cond3_iff i).mpr (by omega)
  have h4 := (cond4_iff i).mpr hi
  have hrow : aPts (F := F) c 0 fullShare (rowOf (k0_pay5 (xb m c) (wb m c 3) (rowMax m c 2))) ⊢ iprop(aPts c 0 (lent 0) (ab m c) ∗ aPts c 0 (lent 1) (ab m c) ∗ aPts c 0 (lent 2) (ab m c) ∗ aPts c 0 kept (ab m c)) := by
    rw [show k0_pay5 (xb m c) (wb m c 3) (rowMax m c 2) = rowMax m c 3 from rfl, aPts_congr c 0 fullShare (rowOf_ab m c)]; exact (aShares c 0 (ab m c)).1
  rw [cc0_body_eq_skeleton]; unfold cc0_body_skel
  simp only [dif_neg h1, dif_neg h2, dif_pos h3, dif_pos h4]
  simp only [Prog.lift, Prog.bind_op, Prog.bind_ret, Prog.pure_eq_ret, wp_deviceId]
  rw [sSlabs]; unfold toks before barPay
  iintro ⟨#HR, HO, ⟨⟨⟨%fa1, Ba0⟩, ⟨%fb1, Bb0⟩⟩, ⟨⟨%fa2, Ba1⟩, ⟨%fb2, Bb1⟩⟩, ⟨⟨%fa3, Ba2⟩, ⟨%fb3, Bb2⟩⟩⟩, ⟨⟨T00, T10, T20, T30⟩, ⟨T01, T11, T21, T31⟩, ⟨T02, T12, T22, T32⟩⟩,
    ⟨⟨P00, P10, P20, P30⟩, ⟨P01, P11, P21, P31⟩, ⟨P02, P12, P22, P32⟩⟩, HX, HM, HY, Ha0, ⟨S0, S1, S2, S3⟩, R0, HOut⟩ Hk
  iapply hldX $$ HX; iintro HX
  iapply hldM $$ HM; iintro HM
  iapply (load_y m c 3) $$ HY; iintro %_ HY
  iapply (store_y m c 3 hj (by rw [k0_off1_eq, hi]) rfl) $$ HY; iintro HY
  iapply (load_row0 c _ _) $$ Ha0; iintro Ha0
  iapply (load_row0 c _ _) $$ Ha0; iintro Ha0
  rw [read_row0]
  iapply (store_row0 c _ _ _) $$ Ha0; iintro Ha0
  ihave Ha := hrow $$ Ha0
  icases Ha with ⟨A0, A1, A2, Ak⟩
  simp only [wp_bind]
  iapply (part2_run m K c i X hX M hM hO hy ha hs hr _ h4 _ fa1) $$ [HO A0 Ba0 T00 T10]
  · isplitr; · iexact HR
    isplitl [HO]; · iexact HO
    isplitl [A0]; · iexact A0
    isplitl [Ba0]; · iexact Ba0
    isplitl [T00]; · iexact T00
    iexact T10
  iintro %r ⟨C00, HO⟩
  rcases r with ⟨r1, r2, r3⟩
  simp only [wp_bind]
  iapply (part3_run m K c i X hX M hM hO hy ha hs hr _ h4 _ _ _ _ fa2 fa3) $$ [HO A1 Ba1 T01 T11 A2 Ba2 T02 T12]
  · isplitr; · iexact HR
    isplitl [HO]; · iexact HO
    isplitl [A1 Ba1 T01 T11]
    · isplitl [A1]; · iexact A1
      isplitl [Ba1]; · iexact Ba1
      isplitl [T01] <;> iassumption
    isplitl [A2]; · iexact A2
    isplitl [Ba2]; · iexact Ba2
    isplitl [T02] <;> iassumption
  iintro %r ⟨C01, C02, HO⟩
  iapply (part4_run m K c i X hX M hM hO hy ha hs hr _ _ _) $$ [HO Ak P10 P11 P12]
  · isplitr; · iexact HR
    isplitl [HO]; · iexact HO
    isplitl [Ak]; · iexact Ak
    isplitl [P10]; · iexact P10
    isplitl [P11]; · iexact P11
    iexact P12
  iintro %u1 %u2 %u3 %u4 ⟨HO, P10, P11, P12, Ak, A1, A2, A3⟩
  simp only [wp_bind]
  iapply (part5_run m K c i X hX M hM hO hy ha hs hr _ h4 _ _ _ _ _ fs fb1) $$ [HO HY S1 Bb0 T20 T30]
  · isplitr; · iexact HR
    isplitl [HO]; · iexact HO
    isplitl [HY]; · iexact HY
    isplitl [S1]; · iexact S1
    isplitl [Bb0]; · iexact Bb0
    isplitl [T20]; · iexact T20
    iexact T30
  iintro %r ⟨C20, HO, HY⟩
  rcases r with ⟨r1, r2, r3, r4, r5⟩
  simp only [wp_bind]
  iapply (part6_run m K c i X hX M hM hO hy ha hs hr _ h4 _ _ _ _ _ fs fb2) $$ [HO HY S2 Bb1 T21 T31]
  · isplitr; · iexact HR
    isplitl [HO]; · iexact HO
    isplitl [HY]; · iexact HY
    isplitl [S2]; · iexact S2
    isplitl [Bb1]; · iexact Bb1
    isplitl [T21]; · iexact T21
    iexact T31
  iintro %r ⟨C21, HO, HY⟩
  rcases r with ⟨r1, r2, r3, r4, r5⟩
  simp only [wp_bind]
  iapply (part7_run m K c i X hX M hM hO hy ha hs hr _ h4 _ _ _ _ _ fs fb3) $$ [HO HY S3 Bb2 T22 T32]
  · isplitr; · iexact HR
    isplitl [HO]; · iexact HO
    isplitl [HY]; · iexact HY
    isplitl [S3]; · iexact S3
    isplitl [Bb2]; · iexact Bb2
    isplitl [T22]; · iexact T22
    iexact T32
  iintro %r ⟨C22, HO, HY⟩
  simp only [wp_bind]
  iapply (part8_run m K c i X hX M hM hO hy ha hs hr _ h4 _) $$ [HO HOut P30]
  · isplitr; · iexact HR
    isplitl [HO]; · iexact HO
    isplitl [HOut]; · iexact HOut
    iexact P30
  iintro %r ⟨HO, HOut, P30, R1⟩
  simp only [wp_bind]
  iapply (part9_run m K c i X hX M hM hO hy ha hs hr _ h4 _ _) $$ [HO HOut P32]
  · isplitr; · iexact HR
    isplitl [HO]; · iexact HO
    isplitl [HOut]; · iexact HOut
    iexact P32
  iintro %r ⟨HO, HOut, P32, R3⟩
  iapply (part10_run m K c i X hX M hM hO hy ha hs hr _ h4 _ _) $$ [HO HOut P31]
  · isplitr; · iexact HR
    isplitl [HO]; · iexact HO
    isplitl [HOut]; · iexact HOut
    iexact P31
  iintro %r ⟨HO, HOut, P31, R2⟩
  iapply (part11_run m K c i X hX M hM hO hy ha hs hr) $$ [HO C00 P00 C01 P01 C02 P02 C20 P20]
  · isplitr; · iexact HR
    isplitl [HO]; · iexact HO
    isplitl [C00 P00]; · isplitl [C00] <;> iassumption
    isplitl [C01 P01]; · isplitl [C01] <;> iassumption
    isplitl [C02 P02]; · isplitl [C02] <;> iassumption
    isplitl [C20] <;> iassumption
  iintro %r ⟨HO, P00, P01, P02, P20, A0, L1, L2, S1⟩
  iapply (step_wait m K c 2 1 [] (by simp) (by rfl)) $$ [HO C21 P21]
  · isplitr; · iexact HR
    isplitl [HO]; · iexact HO
    isplitl [C21]; · iexact C21
    iexact P21
  iintro ⟨HO, P21, S2⟩
  ihave S2 := (pay_2 m c 1 2 rfl) $$ S2
  iapply (step_wait m K c 2 2 [] (by simp) (by rfl)) $$ [HO C22 P22]
  · isplitr; · iexact HR
    isplitl [HO]; · iexact HO
    isplitl [C22]; · iexact C22
    iexact P22
  iintro ⟨HO, P22, S3⟩
  ihave S3 := (pay_2 m c 2 3 rfl) $$ S3
  simp only [wp_ret]
  imodintro
  iapply Hk
  unfold after
  isplitl [HO]; · iexact HO
  isplitl [P00 P10 P20 P30 P01 P11 P21 P31 P02 P12 P22 P32]
  · isplitl [P00 P10 P20 P30]
    · isplitl [P00]; · iexact P00
      isplitl [P10]; · iexact P10
      isplitl [P20] <;> iassumption
    isplitl [P01 P11 P21 P31]
    · isplitl [P01]; · iexact P01
      isplitl [P11]; · iexact P11
      isplitl [P21] <;> iassumption
    isplitl [P02]; · iexact P02
    isplitl [P12]; · iexact P12
    isplitl [P22] <;> iassumption
  isplitl [HX]; · iexact HX
  isplitl [HM]; · iexact HM
  isplitl [HY]; · iexact HY
  isplitl [A0 L1 L2 Ak A1 A2 A3]
  · rw [aRows]
    isplitl [A0 L1 L2 Ak]
    · iapply (aShares c 0 (ab m c)).2
      isplitl [A0]; · iexact A0
      isplitl [L1]; · iexact L1
      isplitl [L2] <;> iassumption
    isplitl [A1]; · iexact A1
    isplitl [A2] <;> iassumption
  isplitl [S0 S1 S2 S3]
  · iapply (sSlabs_join c fs (sAll m c))
    isplitl [S0]; · iexact S0
    isplitl [S1]; · iexact S1
    isplitl [S2] <;> iassumption
  isplitl [R0 R1 R2 R3]
  · iapply (rSlabs_join c fr (rAll m c))
    isplitl [R0]; · iexact R0
    isplitl [R1]; · iexact R1
    isplitl [R2] <;> iassumption
  iexact HOut

end Cert.Exchange

end
-- ==== Proof.Data.lean ====
/-
The pipeline's data: what holds before each grid point, what each point leaves in its windows, what is still owed; and that
the body keeps it.
-/
module

public import proofs.«01_k».proof.Proof.Last

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The invariant -/

/-- The kernel's own semaphores, in the launch's order. -/
abbrev osem : Fin 16 → SemLoc sig := fun n => .dma (⟨4 + n.val, by have := n.isLt; show 4 + n.val < 20; omega⟩ : Fin 20)

/-- The semaphores that take no part: the first of each array. -/
def unused (c : Dev nD) : sProp 𝕄 :=
  iprop(semVal (Val := Elt F) (Name := ℕ) (U := UU) (Lvl := ℕ) (Ix := Unit) ((c : Thread nD τ), osem 0) 0 ∗ semVal ((c : Thread nD τ), osem 4) 0 ∗ semVal ((c : Thread nD τ), osem 8) 0 ∗ semVal ((c : Thread nD τ), osem 12) 0)
/-- Those that do, run down. -/
def closed (c : Dev nD) : sProp 𝕄 :=
  iprop((semVal (Val := Elt F) (Name := ℕ) (U := UU) (Lvl := ℕ) (Ix := Unit) (dcell 0 c 0) 0 ∗ semVal (dcell 1 c 0) 0 ∗ semVal (dcell 2 c 0) 0 ∗ semVal (dcell 3 c 0) 0)
    ∗ (semVal (dcell 0 c 1) 0 ∗ semVal (dcell 1 c 1) 0 ∗ semVal (dcell 2 c 1) 0 ∗ semVal (dcell 3 c 1) 0)
    ∗ (semVal (dcell 0 c 2) 0 ∗ semVal (dcell 1 c 2) 0 ∗ semVal (dcell 2 c 2) 0 ∗ semVal (dcell 3 c 2) 0))

/-- Before the first point, -/
def Φ₀ (c : Dev nD) : sProp 𝕄 :=
  iprop((∃ K, recs m K ∗ ready c ∗ toks c ∗ before c) ∗ unused c
    ∗ (∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))
/-- after point `j`, not the last, -/
def Φ₁ (c : Dev nD) (j : ℕ) : sProp 𝕄 :=
  iprop((∃ K, recs m K ∗ met c ∗ toks c ∗ before c) ∗ unused c
    ∗ Y m c (j + 1) ∗ aPts c 0 fullShare (rowOf (rowMax m c j))
    ∗ (∃ f, (c : Thread nD τ).loc cc0_scratch2 ↦{fullShare} f) ∗ (∃ f, rPts c 0 f))
/-- and at the end. -/
def Φ₂ (c : Dev nD) : sProp 𝕄 :=
  iprop((semVal (barCell c) 0 ∗ closed (F := F) c) ∗ unused c
    ∗ (∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

/-- What is owed before point `t`. -/
def dueAt (c : Dev nD) : ℕ → List (GSem nD τ sig × ℕ)
  | 0 => due0 c | 1 => due1 c | 2 => due1 c | 3 => due1 c | _ => []
/-- What holds before point `t`. -/
def ΦAt (c : Dev nD) : ℕ → sProp 𝕄
  | 0 => Φ₀ m c | 1 => Φ₁ m c 0 | 2 => Φ₁ m c 1 | 3 => Φ₁ m c 2 | _ => Φ₂ c

/-- What the region's buffers hold: the arguments' blocks, and the result whenever it is written back. -/
def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => outAll m c
  Φ t := ΦAt m c t.val
  q _ := fullShare
  owed t := owe (dueAt c t.val)

/-- The window of `x` holds its block at every point, -/
theorem before_x (c : Dev nD) (t : Fin cfg0.N) (d) : (dats m 0 c).before 0 t d = iblk m c 0 t :=
  ((dats m 0 c).before_in_eq_fetched 0 rfl (fun _ => rfl) (fun _ _ _ => rfl) (fun t => by unfold Dat.blockOf; rfl) t d).trans
    (by unfold Dat.fetched Dat.blockOf iblk; rfl)
/-- and so does that of `w`. -/
theorem before_w (c : Dev nD) (t : Fin cfg0.N) (d) : (dats m 0 c).before 1 t d = iblk m c 1 t :=
  ((dats m 0 c).before_in_eq_fetched 1 rfl (fun _ => rfl) (fun _ _ _ => rfl) (fun t => by unfold Dat.blockOf; rfl) t d).trans
    (by unfold Dat.fetched Dat.blockOf iblk; rfl)
/-- `x`'s block is the same at every point. -/
theorem iblk_x (c : Dev nD) (t : Fin cfg0.N) : iblk m c 0 t = xb m c := by
  rcases fin_N0 t with rfl | rfl | rfl | rfl <;> rfl

/-- Holding all of a buffer, said of the buffer. -/
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns; simp only [Memref.view_whole, View.read_whole, View.set_whole]

/-- The staging buffers, loaded whole. -/
theorem loads_x (c : Dev nD) (v : Vec F S1024x4096 .bf16) : Loads c (Memref.whole cc0_stg0_0) xLoad (((c : Thread nD τ).loc cc0_stg0_0) ↦{fullShare} v) v := by
  intro α Q k hl
  have h := wp_load (Λ := Λ₀) (defs := defs₀ (F := F)) 𝒱₀ (c : Thread nD τ) none Set.univ (m := (Memref.whole cc0_stg0_0 : Memref sig .tc .vmem S1024x4096 .bf16)) (r := xLoad) (hl := hl) (Q := Q) (k := k)
    (q := fullShare) (f := v) (Γ := []) (S := Finset.univ) (Finset.subset_univ _)
  rw [show (Memref.whole cc0_stg0_0 : Memref sig .tc .vmem S1024x4096 .bf16).view.readAt (Elt F) xLoad v = v from
    Memref.readAt_unit_zero (Elt F) cc0_stg0_0 (funext fun a => by fin_cases a <;> rfl) _ v] at h
  exact h
/-- A load of the first buffer of `w` reads it, -/
theorem loads_w0 (c : Dev nD) (v : Vec F S4096x512 .bf16) : Loads c (Memref.whole cc0_stg1_0) wLoad (((c : Thread nD τ).loc cc0_stg1_0) ↦{fullShare} v) v := by
  intro α Q k hl
  have h := wp_load (Λ := Λ₀) (defs := defs₀ (F := F)) 𝒱₀ (c : Thread nD τ) none Set.univ (m := (Memref.whole cc0_stg1_0 : Memref sig .tc .vmem S4096x512 .bf16)) (r := wLoad) (hl := hl) (Q := Q) (k := k)
    (q := fullShare) (f := v) (Γ := []) (S := Finset.univ) (Finset.subset_univ _)
  rw [show (Memref.whole cc0_stg1_0 : Memref sig .tc .vmem S4096x512 .bf16).view.readAt (Elt F) wLoad v = v from
    Memref.readAt_unit_zero (Elt F) cc0_stg1_0 (funext fun a => by fin_cases a <;> rfl) _ v] at h
  exact h
/-- as does one of the second. -/
theorem loads_w1 (c : Dev nD) (v : Vec F S4096x512 .bf16) : Loads c (Memref.whole cc0_stg1_1) wLoad (((c : Thread nD τ).loc cc0_stg1_1) ↦{fullShare} v) v := by
  intro α Q k hl
  have h := wp_load (Λ := Λ₀) (defs := defs₀ (F := F)) 𝒱₀ (c : Thread nD τ) none Set.univ (m := (Memref.whole cc0_stg1_1 : Memref sig .tc .vmem S4096x512 .bf16)) (r := wLoad) (hl := hl) (Q := Q) (k := k)
    (q := fullShare) (f := v) (Γ := []) (S := Finset.univ) (Finset.subset_univ _)
  rw [show (Memref.whole cc0_stg1_1 : Memref sig .tc .vmem S4096x512 .bf16).view.readAt (Elt F) wLoad v = v from
    Memref.readAt_unit_zero (Elt F) cc0_stg1_1 (funext fun a => by fin_cases a <;> rfl) _ v] at h
  exact h

/-- Every semaphore that took part, closed. -/
theorem closeAll (K : Cx → ℕ) (c : Dev nD) : iprop(recs m K ∗ at1 c none ∗ after c) ⊢ iprop(|={Set.univ}=> (semVal (barCell c) 0 ∗ closed (F := F) c)) := by
  unfold after closed
  iintro ⟨#HR, HB, ⟨P00, P10, P20, P30⟩, ⟨P01, P11, P21, P31⟩, ⟨P02, P12, P22, P32⟩⟩
  imod (close m K c none) $$ [HB] with HB
  · isplitr; · iexact HR
    iexact HB
  imod (close m K c (some (0, 0))) $$ [P00] with P00
  · isplitr; · iexact HR
    iexact P00
  imod (close m K c (some (1, 0))) $$ [P10] with P10
  · isplitr; · iexact HR
    iexact P10
  imod (close m K c (some (2, 0))) $$ [P20] with P20
  · isplitr; · iexact HR
    iexact P20
  imod (close m K c (some (3, 0))) $$ [P30] with P30
  · isplitr; · iexact HR
    iexact P30
  imod (close m K c (some (0, 1))) $$ [P01] with P01
  · isplitr; · iexact HR
    iexact P01
  imod (close m K c (some (1, 1))) $$ [P11] with P11
  · isplitr; · iexact HR
    iexact P11
  imod (close m K c (some (2, 1))) $$ [P21] with P21
  · isplitr; · iexact HR
    iexact P21
  imod (close m K c (some (3, 1))) $$ [P31] with P31
  · isplitr; · iexact HR
    iexact P31
  imod (close m K c (some (0, 2))) $$ [P02] with P02
  · isplitr; · iexact HR
    iexact P02
  imod (close m K c (some (1, 2))) $$ [P12] with P12
  · isplitr; · iexact HR
    iexact P12
  imod (close m K c (some (2, 2))) $$ [P22] with P22
  · isplitr; · iexact HR
    iexact P22
  imod (close m K c (some (3, 2))) $$ [P32] with P32
  · isplitr; · iexact HR
    iexact P32
  imodintro
  isplitl [HB]; · iexact HB
  isplitl [P00 P10 P20 P30]
  · isplitl [P00]; · iexact P00
    isplitl [P10]; · iexact P10
    isplitl [P20] <;> iassumption
  isplitl [P01 P11 P21 P31]
  · isplitl [P01]; · iexact P01
    isplitl [P11]; · iexact P11
    isplitl [P21] <;> iassumption
  isplitl [P02]; · iexact P02
  isplitl [P12]; · iexact P12
  isplitl [P22] <;> iassumption

end Cert.Exchange

end
-- ==== Proof.Obligation.lean ====
/-
The body obligation: at each grid point the kernel's body takes the invariant before it to the invariant after it.
-/
module

public import proofs.«01_k».proof.Proof.Data

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The coordinate of the first point, -/
theorem coord0 : ((grid0.coords t0_0) 0).val = 0 := by decide
/-- of the second, -/
theorem coord1 : ((grid0.coords t0_1) 0).val = 0 + 1 := by decide
/-- of the third -/
theorem coord2 : ((grid0.coords t0_2) 0).val = 1 + 1 := by decide
/-- and of the last. -/
theorem coord3 : ((grid0.coords t0_3) 0).val = 3 := by decide

set_option maxRecDepth 4000 in
/-- The first point. -/
theorem body0 (c : Dev nD) :
    iprop(Φ₀ m c ∗ Pipeline.owesWithin c (owe (dueAt c t0_0.val)) ((dats m 0 c).bound () t0_0.castSucc) ∗ (∃ d, owns (c : Thread nD τ) (Memref.whole cc0_stg0_0) fullShare ((dats m 0 c).before 0 t0_0 d)) ∗ (∃ d, owns (c : Thread nD τ) (Memref.whole cc0_stg1_0) fullShare ((dats m 0 c).before 1 t0_0 d)) ∗ (∃ d, owns (c : Thread nD τ) (Memref.whole cc0_stg2_0) fullShare ((dats m 0 c).before 2 t0_0 d)))
      ⊢ wp frame (wpE (defs₀ (F := F)) 𝒱₀ (c : Thread nD τ) none) Set.univ (cc0_body (F := F) (grid0.coords t0_0) (Memref.whole cc0_stg0_0) (Memref.isWhole_whole _) (Memref.whole cc0_stg1_0) (Memref.isWhole_whole _) oM (Memref.isWhole_whole _) yM (Memref.isWhole_whole _) aM (Memref.isWhole_whole _) sM (Memref.isWhole_whole _) rM (Memref.isWhole_whole _) cc0_scratch4 cc0_scratch5 cc0_scratch6 cc0_scratch7)
          fun _ => iprop(Φ₁ m c 0 ∗ Pipeline.owesWithin c (owe (dueAt c (t0_0.val + 1))) ((dats m 0 c).bound () t0_0.succ)
            ∗ owns (c : Thread nD τ) (Memref.whole cc0_stg0_0) fullShare (iblk m c 0 t0_0) ∗ owns (c : Thread nD τ) (Memref.whole cc0_stg1_0) fullShare (iblk m c 1 t0_0) ∗ (∃ d, owns (c : Thread nD τ) (Memref.whole cc0_stg2_0) fullShare ((dats m 0 c).before 2 t0_0 d))) := by
  simp only [before_x, before_w, owns_whole_eq, iblk_x]
  unfold Pipeline.owesWithin
  unfold Φ₀ Φ₁
  iintro ⟨⟨⟨%K, #HR, Hrdy, Htk, Hbf⟩, Hun, ⟨%f0, H0⟩, ⟨%f1, H1⟩, H2, ⟨%f3, H3⟩⟩, ⟨%W, %hW, HO⟩, ⟨%d0, %gx, %hx, HX⟩, ⟨%d1, %gw, %hw, HM⟩, Hout⟩
  subst hx hw
  iapply (first_run m K c (grid0.coords t0_0) (Memref.whole cc0_stg0_0) (Memref.isWhole_whole _) (Memref.whole cc0_stg1_0) (Memref.isWhole_whole _) (Memref.isWhole_whole _) (Memref.isWhole_whole _) (Memref.isWhole_whole _) (Memref.isWhole_whole _) (Memref.isWhole_whole _) coord0 (loads_x c _) (loads_w0 c _) f1 f3) $$ [HO Hrdy HX HM H0 H1 H3]
  · isplitr; · iexact HR
    isplitl [HO]; · unfold Owes; iexists W; iexact HO
    isplitl [Hrdy]; · iexact Hrdy
    isplitl [HX]; · iexact HX
    isplitl [HM]; · iexact HM
    isplitl [H0]
    · unfold Y; iexists f0
      isplitr; · ipureintro; exact fun i hi => absurd hi (by omega)
      iexact H0
    isplitl [H1] <;> iassumption
  iintro ⟨HO, Hmet, HX, HM, HY, Ha, Hr⟩
  isplitl [Hmet Htk Hbf Hun HY Ha H2 Hr]
  · isplitl [Hmet Htk Hbf]
    · iexists K
      isplitr; · iexact HR
      isplitl [Hmet]; · iexact Hmet
      isplitl [Htk] <;> iassumption
    isplitl [Hun]; · iexact Hun
    isplitl [HY]; · iexact HY
    isplitl [Ha]; · iexact Ha
    isplitl [H2]; · iexact H2
    iexists f3; iexact Hr
  isplitl [HO]
  · unfold Owes; icases HO with ⟨%W', HO⟩
    iexists W'
    isplitr; · ipureintro; exact fun _ _ => Or.inl trivial
    iexact HO
  isplitl [HX]
  · iexists _; isplitr; · (ipureintro; rfl)
    iexact HX
  isplitl [HM]
  · iexists _; isplitr; · (ipureintro; rfl)
    iexact HM
  iexact Hout

set_option maxRecDepth 4000 in
/-- The second point. -/
theorem body1 (c : Dev nD) :
    iprop(Φ₁ m c 0 ∗ Pipeline.owesWithin c (owe (dueAt c t0_1.val)) ((dats m 0 c).bound () t0_1.castSucc) ∗ (∃ d, owns (c : Thread nD τ) (Memref.whole cc0_stg0_0) fullShare ((dats m 0 c).before 0 t0_1 d)) ∗ (∃ d, owns (c : Thread nD τ) (Memref.whole cc0_stg1_1) fullShare ((dats m 0 c).before 1 t0_1 d)) ∗ (∃ d, owns (c : Thread nD τ) (Memref.whole cc0_stg2_0) fullShare ((dats m 0 c).before 2 t0_1 d)))
      ⊢ wp frame (wpE (defs₀ (F := F)) 𝒱₀ (c : Thread nD τ) none) Set.univ (cc0_body (F := F) (grid0.coords t0_1) (Memref.whole cc0_stg0_0) (Memref.isWhole_whole _) (Memref.whole cc0_stg1_1) (Memref.isWhole_whole _) oM (Memref.isWhole_whole _) yM (Memref.isWhole_whole _) aM (Memref.isWhole_whole _) sM (Memref.isWhole_whole _) rM (Memref.isWhole_whole _) cc0_scratch4 cc0_scratch5 cc0_scratch6 cc0_scratch7)
          fun _ => iprop(Φ₁ m c 1 ∗ Pipeline.owesWithin c (owe (dueAt c (t0_1.val + 1))) ((dats m 0 c).bound () t0_1.succ)
            ∗ owns (c : Thread nD τ) (Memref.whole cc0_stg0_0) fullShare (iblk m c 0 t0_1) ∗ owns (c : Thread nD τ) (Memref.whole cc0_stg1_1) fullShare (iblk m c 1 t0_1) ∗ (∃ d, owns (c : Thread nD τ) (Memref.whole cc0_stg2_0) fullShare ((dats m 0 c).before 2 t0_1 d))) := by
  simp only [before_x, before_w, owns_whole_eq, iblk_x]
  unfold Pipeline.owesWithin
  unfold Φ₁
  iintro ⟨⟨Hrec, Hun, HY, Ha, H2, Hr⟩, ⟨%W, %hW, HO⟩, ⟨%d0, %gx, %hx, HX⟩, ⟨%d1, %gw, %hw, HM⟩, Hout⟩
  subst hx hw
  iapply (next_run m c (grid0.coords t0_1) (Memref.whole cc0_stg0_0) (Memref.isWhole_whole _) (Memref.whole cc0_stg1_1) (Memref.isWhole_whole _) (Memref.isWhole_whole _) (Memref.isWhole_whole _) (Memref.isWhole_whole _) (Memref.isWhole_whole _) (Memref.isWhole_whole _) 0 coord1 (by decide) (loads_x c _) (loads_w1 c _)) $$ [HX HM HY Ha]
  · isplitl [HX]; · iexact HX
    isplitl [HM]; · iexact HM
    isplitl [HY] <;> iassumption
  iintro ⟨HX, HM, HY, Ha⟩
  isplitl [Hrec Hun HY Ha H2 Hr]
  · isplitl [Hrec]; · iexact Hrec
    isplitl [Hun]; · iexact Hun
    isplitl [HY]; · iexact HY
    isplitl [Ha]; · iexact Ha
    isplitl [H2] <;> iassumption
  isplitl [HO]
  · iexists W
    isplitr; · ipureintro; exact fun _ _ => Or.inl trivial
    iexact HO
  isplitl [HX]; · iexists _; isplitr; · (ipureintro; rfl)
                  iexact HX
  isplitl [HM]; · iexists _; isplitr; · (ipureintro; rfl)
                  iexact HM
  iexact Hout

set_option maxRecDepth 4000 in
/-- The third point. -/
theorem body2 (c : Dev nD) :
    iprop(Φ₁ m c 1 ∗ Pipeline.owesWithin c (owe (dueAt c t0_2.val)) ((dats m 0 c).bound () t0_2.castSucc) ∗ (∃ d, owns (c : Thread nD τ) (Memref.whole cc0_stg0_0) fullShare ((dats m 0 c).before 0 t0_2 d)) ∗ (∃ d, owns (c : Thread nD τ) (Memref.whole cc0_stg1_0) fullShare ((dats m 0 c).before 1 t0_2 d)) ∗ (∃ d, owns (c : Thread nD τ) (Memref.whole cc0_stg2_0) fullShare ((dats m 0 c).before 2 t0_2 d)))
      ⊢ wp frame (wpE (defs₀ (F := F)) 𝒱₀ (c : Thread nD τ) none) Set.univ (cc0_body (F := F) (grid0.coords t0_2) (Memref.whole cc0_stg0_0) (Memref.isWhole_whole _) (Memref.whole cc0_stg1_0) (Memref.isWhole_whole _) oM (Memref.isWhole_whole _) yM (Memref.isWhole_whole _) aM (Memref.isWhole_whole _) sM (Memref.isWhole_whole _) rM (Memref.isWhole_whole _) cc0_scratch4 cc0_scratch5 cc0_scratch6 cc0_scratch7)
          fun _ => iprop(Φ₁ m c 2 ∗ Pipeline.owesWithin c (owe (dueAt c (t0_2.val + 1))) ((dats m 0 c).bound () t0_2.succ)
            ∗ owns (c : Thread nD τ) (Memref.whole cc0_stg0_0) fullShare (iblk m c 0 t0_2) ∗ owns (c : Thread nD τ) (Memref.whole cc0_stg1_0) fullShare (iblk m c 1 t0_2) ∗ (∃ d, owns (c : Thread nD τ) (Memref.whole cc0_stg2_0) fullShare ((dats m 0 c).before 2 t0_2 d))) := by
  simp only [before_x, before_w, owns_whole_eq, iblk_x]
  unfold Pipeline.owesWithin
  unfold Φ₁
  iintro ⟨⟨Hrec, Hun, HY, Ha, H2, Hr⟩, ⟨%W, %hW, HO⟩, ⟨%d0, %gx, %hx, HX⟩, ⟨%d1, %gw, %hw, HM⟩, Hout⟩
  subst hx hw
  iapply (next_run m c (grid0.coords t0_2) (Memref.whole cc0_stg0_0) (Memref.isWhole_whole _) (Memref.whole cc0_stg1_0) (Memref.isWhole_whole _) (Memref.isWhole_whole _) (Memref.isWhole_whole _) (Memref.isWhole_whole _) (Memref.isWhole_whole _) (Memref.isWhole_whole _) 1 coord2 (by decide) (loads_x c _) (loads_w0 c _)) $$ [HX HM HY Ha]
  · isplitl [HX]; · iexact HX
    isplitl [HM]; · iexact HM
    isplitl [HY] <;> iassumption
  iintro ⟨HX, HM, HY, Ha⟩
  isplitl [Hrec Hun HY Ha H2 Hr]
  · isplitl [Hrec]; · iexact Hrec
    isplitl [Hun]; · iexact Hun
    isplitl [HY]; · iexact HY
    isplitl [Ha]; · iexact Ha
    isplitl [H2] <;> iassumption
  isplitl [HO]
  · iexists W
    isplitr; · ipureintro; exact fun _ _ => Or.inl trivial
    iexact HO
  isplitl [HX]; · iexists _; isplitr; · (ipureintro; rfl)
                  iexact HX
  isplitl [HM]; · iexists _; isplitr; · (ipureintro; rfl)
                  iexact HM
  iexact Hout

set_option maxRecDepth 4000 in
/-- The last point. -/
theorem body3 (c : Dev nD) :
    iprop(Φ₁ m c 2 ∗ Pipeline.owesWithin c (owe (dueAt c t0_3.val)) ((dats m 0 c).bound () t0_3.castSucc) ∗ (∃ d, owns (c : Thread nD τ) (Memref.whole cc0_stg0_0) fullShare ((dats m 0 c).before 0 t0_3 d)) ∗ (∃ d, owns (c : Thread nD τ) (Memref.whole cc0_stg1_1) fullShare ((dats m 0 c).before 1 t0_3 d)) ∗ (∃ d, owns (c : Thread nD τ) (Memref.whole cc0_stg2_0) fullShare ((dats m 0 c).before 2 t0_3 d)))
      ⊢ wp frame (wpE (defs₀ (F := F)) 𝒱₀ (c : Thread nD τ) none) Set.univ (cc0_body (F := F) (grid0.coords t0_3) (Memref.whole cc0_stg0_0) (Memref.isWhole_whole _) (Memref.whole cc0_stg1_1) (Memref.isWhole_whole _) oM (Memref.isWhole_whole _) yM (Memref.isWhole_whole _) aM (Memref.isWhole_whole _) sM (Memref.isWhole_whole _) rM (Memref.isWhole_whole _) cc0_scratch4 cc0_scratch5 cc0_scratch6 cc0_scratch7)
          fun _ => iprop(Φ₂ c ∗ Pipeline.owesWithin c (owe (dueAt c (t0_3.val + 1))) ((dats m 0 c).bound () t0_3.succ)
            ∗ owns (c : Thread nD τ) (Memref.whole cc0_stg0_0) fullShare (iblk m c 0 t0_3) ∗ owns (c : Thread nD τ) (Memref.whole cc0_stg1_1) fullShare (iblk m c 1 t0_3) ∗ owns (c : Thread nD τ) (Memref.whole cc0_stg2_0) fullShare (outAll m c)) := by
  simp only [before_x, before_w, owns_whole_eq, iblk_x]
  unfold Pipeline.owesWithin
  unfold Φ₁ met
  iintro ⟨⟨⟨%K, #HR, ⟨Hat, Hmet⟩, Htk, Hbf⟩, Hun, HY, Ha, ⟨%f2, H2⟩, ⟨%f3, Hr⟩⟩, ⟨%W, %hW, HO⟩, ⟨%d0, %gx, %hx, HX⟩, ⟨%d1, %gw, %hw, HM⟩, ⟨%d2, %go, %ho, Hout⟩⟩
  subst hx hw
  iapply (wp_fupd frame (wpE (defs₀ (F := F)) 𝒱₀ (c : Thread nD τ) none) Set.univ)
  iapply (last_run m K c (grid0.coords t0_3) (Memref.whole cc0_stg0_0) (Memref.isWhole_whole _) (Memref.whole cc0_stg1_1) (Memref.isWhole_whole _) (Memref.isWhole_whole _) (Memref.isWhole_whole _) (Memref.isWhole_whole _) (Memref.isWhole_whole _) (Memref.isWhole_whole _) coord3 (loads_x c _) (loads_w1 c _) f2 f3) $$ [HO Hmet Htk Hbf HX HM HY Ha H2 Hr Hout]
  · isplitr; · iexact HR
    isplitl [HO]; · unfold Owes; iexists W; iexact HO
    isplitl [Hmet]; · iexact Hmet
    isplitl [Htk]; · iexact Htk
    isplitl [Hbf]; · iexact Hbf
    isplitl [HX]; · iexact HX
    isplitl [HM]; · iexact HM
    isplitl [HY]; · iexact HY
    isplitl [Ha]; · iexact Ha
    isplitl [H2]; · iexact H2
    isplitl [Hr]; · iexact Hr
    unfold Out; iexists go
    isplitr; · ipureintro; exact oAt_empty m c go
    iexact Hout
  iintro ⟨HO, Haft, HX, HM, HY, H1, H2, H3, Hout⟩
  imod (closeAll m K c) $$ [Hat Haft] with Hcl
  · isplitr; · iexact HR
    isplitl [Hat] <;> iassumption
  imodintro
  unfold Φ₂
  isplitl [Hcl Hun HY H1 H2 H3]
  · isplitl [Hcl]; · iexact Hcl
    isplitl [Hun]; · iexact Hun
    isplitl [HY]; · unfold Y; icases HY with ⟨%f, -, HY⟩; iexists f; iexact HY
    isplitl [H1]; · iexists _; iexact H1
    isplitl [H2] <;> iassumption
  isplitl [HO]
  · unfold Owes; icases HO with ⟨%W', HO⟩
    iexists W'
    isplitr; · ipureintro; exact fun _ _ => Or.inl trivial
    iexact HO
  isplitl [HX]
  · iexists _; isplitr; · (ipureintro; rfl)
    iexact HX
  isplitl [HM]
  · iexists _; isplitr; · (ipureintro; rfl)
    iexact HM
  unfold Out
  icases Hout with ⟨%f, %hf, Hout⟩
  iexists f
  isplitr; · ipureintro; exact oAt_all m c f hf
  iexact Hout

set_option maxRecDepth 8000 in
/-- The library's body obligation on device `c`. -/
theorem body_obligation (c : Dev nD) : BodyObligation (dats (F := F) m 0 c) (defs₀ (F := F)) 𝒱₀ () Set.univ := fun t => by
  rcases fin_N0 t with rfl | rfl | rfl | rfl
  · rw [bigSep_W0, bigSep_W0]; exact body0 m c
  · rw [bigSep_W0, bigSep_W0]; exact body1 m c
  · rw [bigSep_W0, bigSep_W0]; exact body2 m c
  · rw [bigSep_W0, bigSep_W0]; exact body3 m c

end Cert.Exchange

end
-- ==== Proof.Start.lean ====
/-
The launch: how the semaphores' records are opened, how their tokens are dealt among the devices, what credit each
device starts with, and what its region is entered with and left with.
-/
module

public import proofs.«01_k».proof.Proof.Obligation

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The records to open -/

/-- The semaphores of the exchange are none of the pipeline's. -/
theorem ownSemFacts : Pipeline.OwnSemFacts cfg0.spec osem := by decide

/-- Every staging buffer is held whole. -/
theorem share_eq (c : Dev nD) (w : Fin cfg0.W) : (dats m 0 c).share w = fullShare := by unfold Dat.share; split <;> rfl

/-- Every semaphore taking part. -/
def exCells : Finset (GSem nD τ sig) := Finset.univ.map ⟨kcell, kcell_injective⟩

/-- The duties of one device's own semaphores: three at its barrier, one at each semaphore of its transfers. -/
abbrev Duty : Type := Fin 3 ⊕ (Fin 4 × Fin 3)
/-- The token of each. -/
abbrev tokOf (x : Dev nD × Duty) : GSem nD τ sig × ℕ × Fin 3 := match x.2 with
  | .inl e => (barCell x.1, 0, e) | .inr kh => (cell x.1 (some kh), 0, 0)
/-- No two duties have the same token. -/
theorem tokOf_injective : Function.Injective tokOf := by
  rintro ⟨c, d⟩ ⟨c', d'⟩ h
  rcases d with e | kh <;> rcases d' with e' | kh'
  · have h1 : c = c' := congrArg (fun x : GSem nD τ sig × ℕ × Fin 3 => x.1.1.1) h
    have h2 : e = e' := congrArg (fun x : GSem nD τ sig × ℕ × Fin 3 => x.2.2) h
    rw [h1, h2]
  · have h2 : (none : Ck) = some kh' := csem_injective (congrArg (fun x : GSem nD τ sig × ℕ × Fin 3 => x.1.2) h)
    cases h2
  · have h2 : (some kh : Ck) = none := csem_injective (congrArg (fun x : GSem nD τ sig × ℕ × Fin 3 => x.1.2) h)
    cases h2
  · have h1 : c = c' := congrArg (fun x : GSem nD τ sig × ℕ × Fin 3 => x.1.1.1) h
    have h2 : (some kh : Ck) = some kh' := csem_injective (congrArg (fun x : GSem nD τ sig × ℕ × Fin 3 => x.1.2) h)
    rw [h1, Option.some.inj h2]
/-- All the tokens. -/
def exToks : Finset (GSem nD τ sig × ℕ × Fin 3) := Finset.univ.map ⟨tokOf, tokOf_injective⟩

/-- What the launch starts the records of the windows and of the exchange from. -/
def u₀ : UU := (initOf (Pipeline.cells cfgs cellOf_inj) (Pipeline.launchToks cfgs cellOf_inj), initOf exCells exToks)

/-- A device's semaphores one after another, -/
theorem bigSep_ck (Φ : Ck → sProp 𝕄) : bigSep Finset.univ Φ
    = iprop(Φ none ∗ Φ (some (0, 0)) ∗ Φ (some (1, 0)) ∗ Φ (some (2, 0)) ∗ Φ (some (3, 0)) ∗ Φ (some (0, 1)) ∗ Φ (some (1, 1)) ∗ Φ (some (2, 1)) ∗ Φ (some (3, 1)) ∗ Φ (some (0, 2)) ∗ Φ (some (1, 2)) ∗ Φ (some (2, 2)) ∗ Φ (some (3, 2))) :=
  bigSep_univ_eq_bigSepL [none, some (0, 0), some (1, 0), some (2, 0), some (3, 0), some (0, 1), some (1, 1), some (2, 1), some (3, 1), some (0, 2), some (1, 2), some (2, 2), some (3, 2)] (by decide) (by decide) Φ
/-- and the duties of its own. -/
theorem bigSep_duty (Φ : Duty → sProp 𝕄) : bigSep Finset.univ Φ
    = iprop(Φ (.inl 0) ∗ Φ (.inl 1) ∗ Φ (.inl 2) ∗ Φ (.inr (0, 0)) ∗ Φ (.inr (1, 0)) ∗ Φ (.inr (2, 0)) ∗ Φ (.inr (3, 0)) ∗ Φ (.inr (0, 1)) ∗ Φ (.inr (1, 1)) ∗ Φ (.inr (2, 1)) ∗ Φ (.inr (3, 1)) ∗ Φ (.inr (0, 2)) ∗ Φ (.inr (1, 2)) ∗ Φ (.inr (2, 2)) ∗ Φ (.inr (3, 2))) :=
  bigSep_univ_eq_bigSepL ([.inl 0, .inl 1, .inl 2, .inr (0, 0), .inr (1, 0), .inr (2, 0), .inr (3, 0), .inr (0, 1), .inr (1, 1), .inr (2, 1), .inr (3, 1), .inr (0, 2), .inr (1, 2), .inr (2, 2), .inr (3, 2)] : List Duty) (by decide) (by decide) Φ

/-- The tokens of a device's own semaphores. -/
def ownToks (c : Dev nD) : sProp 𝕄 := bigSep Finset.univ fun d : Duty => dutyTok ER (tokOf (c, d)).1 (tokOf (c, d)).2.1 (tokOf (c, d)).2.2

/-- A device's part of what the launch makes, -/
def G (c : Dev nD) : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ ownToks c)

/-- the tokens of the duties it is to pay, -/
def payToks (c : Dev nD) : sProp 𝕄 := iprop((tokBar (F := F) c 0 ∗ tokBar c 1 ∗ tokBar c 2) ∗ toks c)
/-- and what it holds once the records are opened and the tokens dealt. -/
def G' (c : Dev nD) : sProp 𝕄 :=
  iprop(∃ K, bigSep (Finset.univ : Finset Cx) (rec1 m K) ∗ (bigSep Finset.univ fun k : Ck => at0 (F := F) c k) ∗ payToks c ∗ unused c)

/-- The exchange's resources at launch: each device's cells and tokens. -/
theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => ownToks c := by
    unfold exToks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

/-- The kernel's own semaphores: those that take part, and the first of each array. -/
theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal (dcell 0 c 0) 0 ∗ semVal (dcell 0 c 1) 0 ∗ semVal (dcell 0 c 2) 0 ∗ semVal ((c : Thread nD τ), osem 4) 0 ∗ semVal (dcell 1 c 0) 0 ∗ semVal (dcell 1 c 1) 0 ∗ semVal (dcell 1 c 2) 0 ∗ semVal ((c : Thread nD τ), osem 8) 0 ∗ semVal (dcell 2 c 0) 0 ∗ semVal (dcell 2 c 1) 0 ∗ semVal (dcell 2 c 2) 0 ∗ semVal ((c : Thread nD τ), osem 12) 0 ∗ semVal (dcell 3 c 0) 0 ∗ semVal (dcell 3 c 1) 0 ∗ semVal (dcell 3 c 2) 0) := by
  rw [Pipeline.ownSems0_eq_of_list c osem [0, 1, 2, 3, 4, 5, 6, 7, 8, 9, 10, 11, 12, 13, 14, 15] (by decide) (by decide)]; rfl
/-- The barrier's is the one semaphore of the whole program. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero: one for each of its cells, and the four it does not use. -/
theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : Ck => semVal (kcell (c, k)) 0 : sProp 𝕄) ∗ unused c) := by
  rw [ownSems0_eq, unscopedSems0_eq, bigSep_ck]
  unfold unused
  iintro ⟨⟨U0, P00, P01, P02, U1, P10, P11, P12, U2, P20, P21, P22, U3, P30, P31, P32⟩, HB⟩
  isplitl [HB P00 P10 P20 P30 P01 P11 P21 P31 P02 P12 P22 P32]
  · isplitl [HB]; · iexact HB
    isplitl [P00]; · iexact P00
    isplitl [P10]; · iexact P10
    isplitl [P20]; · iexact P20
    isplitl [P30]; · iexact P30
    isplitl [P01]; · iexact P01
    isplitl [P11]; · iexact P11
    isplitl [P21]; · iexact P21
    isplitl [P31]; · iexact P31
    isplitl [P02]; · iexact P02
    isplitl [P12]; · iexact P12
    isplitl [P22]; · iexact P22
    iexact P32
  isplitl [U0]; · iexact U0
  isplitl [U1]; · iexact U1
  isplitl [U2]; · iexact U2
  iexact U3

/-- The cells closed and the unused semaphores are all of them again. -/
theorem sems_join (c : Dev nD) :
    iprop(closed (F := F) c ∗ unused c)
      ⊢ (Pipeline.ownSems0 (Ix := Unit) (Name := ℕ) (U := UU) (Lvl := ℕ) (Val := Elt F) (τ := τ) osem c : sProp 𝕄) := by
  rw [ownSems0_eq]
  unfold closed unused
  iintro ⟨⟨⟨P00, P10, P20, P30⟩, ⟨P01, P11, P21, P31⟩, P02, P12, P22, P32⟩, U0, U1, U2, U3⟩
  isplitl [U0]; · iexact U0
  isplitl [P00]; · iexact P00
  isplitl [P01]; · iexact P01
  isplitl [P02]; · iexact P02
  isplitl [U1]; · iexact U1
  isplitl [P10]; · iexact P10
  isplitl [P11]; · iexact P11
  isplitl [P12]; · iexact P12
  isplitl [U2]; · iexact U2
  isplitl [P20]; · iexact P20
  isplitl [P21]; · iexact P21
  isplitl [P22]; · iexact P22
  isplitl [U3]; · iexact U3
  isplitl [P30]; · iexact P30
  isplitl [P31]; · iexact P31
  iexact P32

/-- Each device opens its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell (c, k))))
          ∗ (bigSep Finset.univ fun k : Ck => iprop(atPos ER (kcell (c, k)) 0 ∅ 0 ∗ reached ER (kcell (c, k)) 0)) ∗ ownToks c ∗ unused c) := by
  unfold G
  iintro ⟨Hos, Hus, Hst, Hat, Htok⟩
  ihave Hv := (sems_split (F := F) c) $$ [Hos Hus]
  · isplitl [Hos] <;> iassumption
  icases Hv with ⟨Hv, Hun⟩
  imod (show iprop((bigSep Finset.univ fun k : Ck => semVal (kcell (c, k)) 0) ∗ bigSep Finset.univ fun k : Ck => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What every device holds, looked at from the device `h + 1` places on. -/
theorem deal (h : Fin 3) (Φ : Dev nD → sProp 𝕄) : bigSep Finset.univ Φ = bigSep Finset.univ fun c : Dev nD => Φ (peer c h) :=
  bigSep_univ_equiv (turn h) Φ

/-- The tokens dealt: each device receives those of the duties it pays. -/
theorem toks_around : (bigSep Finset.univ fun c : Dev nD => (ownToks c : sProp 𝕄)) ⊢ bigSep Finset.univ fun c : Dev nD => payToks (F := F) c := by
  have hB (h : Fin 3) : (bigSep Finset.univ fun c : Dev nD => (dutyTok ER (barCell c) 0 h.rev : sProp 𝕄)) ⊢ bigSep Finset.univ fun c : Dev nD => tokBar (F := F) c h :=
    Entails.of_eq (deal h _)
  have hT (k : Fin 4) (h : Fin 3) : (bigSep Finset.univ fun c : Dev nD => (dutyTok ER (dcell k c h) 0 (0 : Fin 3) : sProp 𝕄)) ⊢ bigSep Finset.univ fun c : Dev nD => tok (F := F) k (peer c h) h :=
    Entails.of_eq (deal h _)
  unfold ownToks payToks toks
  simp only [bigSep_duty, bigSep_sep']
  iintro ⟨B0, B1, B2, P00, P10, P20, P30, P01, P11, P21, P31, P02, P12, P22, P32⟩
  isplitl [B0 B1 B2]
  · isplitl [B2]; · iapply (hB 0); iexact B2
    isplitl [B1]; · iapply (hB 1); iexact B1
    iapply (hB 2); iexact B0
  isplitl [P00 P10 P20 P30]
  · isplitl [P00]; · iexact P00
    isplitl [P10]; · iapply (hT 1 0); iexact P10
    isplitl [P20]; · iexact P20
    iapply (hT 3 0); iexact P30
  isplitl [P01 P11 P21 P31]
  · isplitl [P01]; · iexact P01
    isplitl [P11]; · iapply (hT 1 1); iexact P11
    isplitl [P21]; · iexact P21
    iapply (hT 3 1); iexact P31
  isplitl [P02]; · iexact P02
  isplitl [P12]; · iapply (hT 1 2); iexact P12
  isplitl [P22]; · iexact P22
  iapply (hT 3 2); iexact P32

/-- A fact that may be used again goes to every device. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cells opened, every device knows all of them and takes the tokens it pays with. -/
theorem regroup :
    (bigSep Finset.univ fun c : Dev nD => iprop((bigSep Finset.univ fun k : Ck => iprop(∃ κ : ℕ, cellInv ER (Rd m) κ (kcell (c, k))))
          ∗ (bigSep Finset.univ fun k : Ck => iprop(atPos ER (kcell (c, k)) 0 ∅ 0 ∗ reached ER (kcell (c, k)) 0)) ∗ ownToks c ∗ unused c) : sProp 𝕄)
      ⊢ bigSep Finset.univ (G' m) := by
  rw [bigSep_sep', bigSep_sep', bigSep_sep', ← bigSep_univ_prod (fun x : Cx => iprop(∃ κ : ℕ, cellInv ER (Rd m) κ (kcell x))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun x : Cx => (reached ER (kcell x) 0 : sProp 𝕄))]
  iintro ⟨HI, ⟨Hat, #HR⟩, Htok, Hun⟩
  ihave HK := (BI.bigSep_exists_pi Finset.univ (fun (x : Cx) (κ : ℕ) => (cellInv ER (Rd m) κ (kcell x) : sProp 𝕄))) $$ HI
  icases HK with ⟨%K, #HI⟩
  ihave Htk := (toks_around (F := F)) $$ Htok
  have hR : iprop((bigSep Finset.univ fun x : Cx => (cellInv ER (Rd m) (K x) (kcell x) : sProp 𝕄)) ∗ (bigSep Finset.univ fun x : Cx => (reached ER (kcell x) 0 : sProp 𝕄)))
      ⊢ bigSep (Finset.univ : Finset Cx) (rec1 m K) := Entails.of_eq (bigSep_sep' _ _ _).symm
  iapply (bigSep_share (R := bigSep (Finset.univ : Finset Cx) (rec1 m K)) (Φ := fun c => iprop((bigSep Finset.univ fun k : Ck => at0 (F := F) c k) ∗ payToks c ∗ unused c))
    (Ψ := G' m) fun c _ => by
      unfold G'
      iintro ⟨#H, HL⟩
      iexists K
      isplitr
      · iexact H
      iexact HL)
  isplitr
  · iapply hR
    isplitl; · iexact HI
    iexact HR
  · rw [bigSep_sep', bigSep_sep']
    isplitl [Hat]; · iexact Hat
    isplitl [Htk] <;> iassumption

/-- Every device's records opened together, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit to wait -/

/-- One thing owed by each device to the one `h + 1` places on is one credit for each device. -/
theorem credOne (k : Ck) (h : Fin 3) (n : ℕ) (l : Dev nD → List (GSem nD τ sig × ℕ)) (c : Dev nD) :
    (Pipeline.launchCred (fun d => owe ((cell (peer d h) k, n) :: l d)) c : sProp 𝕄) ⊢ iprop(crd c k n ∗ Pipeline.launchCred (fun d => owe (l d)) c) := by
  have e := Pipeline.launchCred_add (Val := Elt F) (Name := ℕ) (U := UU) (Lvl := ℕ) (fun d => owe (l d)) (fun d => tallyAt (cell (peer d h) k) () n) c
  have h1 : Pipeline.launchCred (fun d => tallyAt (cell (peer d h) k) () n) c ⊢ crd (F := F) c k n := Pipeline.launchCred_tallyAt (τ := τ) (Val := Elt F) (Name := ℕ) (U := UU) (Lvl := ℕ) (csem k) (fun d => peer d h) (fun d => src d h) (fun c => peer_src c h) (fun d => src_peer d h) () n c
  refine (Entails.of_eq e).trans ?_
  iintro ⟨H, H'⟩
  isplitl [H']
  · iapply h1; iexact H'
  iexact H

/-- Three units of credit at the barrier are a credit of three. -/
theorem crd_three (c : Dev nD) : iprop(crd (F := F) c none 1 ∗ crd c none 1 ∗ crd c none 1) ⊢ crd (F := F) c none 3 := by
  have h2 : iprop(crd (F := F) c none 1 ∗ crd c none 1) ⊢ crd (F := F) c none 2 := by
    unfold crd; rw [← tallyAt_add _ _ 1 1]; exact (cred_add _ _).2
  have h3 : iprop(crd (F := F) c none 1 ∗ crd c none 2) ⊢ crd (F := F) c none 3 := by
    unfold crd; rw [← tallyAt_add _ _ 1 2]; exact (cred_add _ _).2
  exact (sep_mono_right h2).trans h3

/-- What the others owe a device at launch: three raises of its barrier, three rows and three blocks. -/
theorem creds (c : Dev nD) : (Pipeline.launchCred (fun d => owe (due0 d)) c : sProp 𝕄)
    ⊢ iprop(crd c none 3 ∗ (crd c (some (1, 0)) NA ∗ crd c (some (1, 1)) NA ∗ crd c (some (1, 2)) NA)
      ∗ (crd c (some (3, 0)) NB ∗ crd c (some (3, 1)) NB ∗ crd c (some (3, 2)) NB)) := by
  unfold due0 due1 due2
  iintro H
  ihave H := (credOne (F := F) none 0 1 _ c) $$ H
  icases H with ⟨B0, H⟩
  ihave H := (credOne (F := F) none 1 1 _ c) $$ H
  icases H with ⟨B1, H⟩
  ihave H := (credOne (F := F) none 2 1 _ c) $$ H
  icases H with ⟨B2, H⟩
  ihave H := (credOne (F := F) (some (1, 0)) 0 NA _ c) $$ H
  icases H with ⟨A0, H⟩
  ihave H := (credOne (F := F) (some (1, 1)) 1 NA _ c) $$ H
  icases H with ⟨A1, H⟩
  ihave H := (credOne (F := F) (some (1, 2)) 2 NA _ c) $$ H
  icases H with ⟨A2, H⟩
  ihave H := (credOne (F := F) (some (3, 0)) 0 NB _ c) $$ H
  icases H with ⟨D0, H⟩
  ihave H := (credOne (F := F) (some (3, 1)) 1 NB _ c) $$ H
  icases H with ⟨D1, H⟩
  ihave H := (credOne (F := F) (some (3, 2)) 2 NB _ c) $$ H
  icases H with ⟨D2, H⟩
  isplitl [B0 B1 B2]
  · iapply (crd_three (F := F) c)
    isplitl [B0]; · iexact B0
    isplitl [B1] <;> iassumption
  isplitl [A0 A1 A2]
  · isplitl [A0]; · iexact A0
    isplitl [A1] <;> iassumption
  isplitl [D0]; · iexact D0
  isplitl [D1] <;> iassumption

/-! ## Entering and leaving the region -/

/-- What a device starts from. -/
def start (c : Dev nD) : sProp 𝕄 := iprop((∃ K, recs m K ∗ ready c ∗ toks c ∗ before c) ∗ unused c)

/-- So each device starts. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred (fun d => owe (due0 d)) c ∗ prngReg c (ρ c) ∗ G' m c)
      ⊢ |={Set.univ}=> iprop(start m c ∗ emp) := by
  unfold start G' recs payToks ready before
  rw [bigSep_ck]
  iintro ⟨-, Hlev, Hcr, -, ⟨%K, HR, ⟨HB, P00, P10, P20, P30, P01, P11, P21, P31, P02, P12, P22, P32⟩, ⟨⟨T0, T1, T2⟩, Htok⟩, Hun⟩⟩
  ihave Hc := (creds (F := F) c) $$ Hcr
  icases Hc with ⟨C3, ⟨A0, A1, A2⟩, D0, D1, D2⟩
  imodintro
  isplitl
  · isplitr [Hun]
    · iexists K
      isplitl [HR Hlev]
      · isplitl [HR] <;> iassumption
      isplitl [T0 T1 T2 C3 HB]
      · isplitl [T0]; · iexact T0
        isplitl [T1]; · iexact T1
        isplitl [T2]; · iexact T2
        isplitl [C3] <;> iassumption
      isplitl [Htok]; · iexact Htok
      isplitl [P00 P10 P20 P30 A0 D0]
      · isplitl [P00]; · iexact P00
        isplitl [A0 P10]
        · isplitl [A0] <;> iassumption
        isplitl [P20]; · iexact P20
        isplitl [D0] <;> iassumption
      isplitl [P01 P11 P21 P31 A1 D1]
      · isplitl [P01]; · iexact P01
        isplitl [A1 P11]
        · isplitl [A1] <;> iassumption
        isplitl [P21]; · iexact P21
        isplitl [D1] <;> iassumption
      isplitl [P02]; · iexact P02
      isplitl [A2 P12]
      · isplitl [A2] <;> iassumption
      isplitl [P22]; · iexact P22
      isplitl [D2] <;> iassumption
    · iexact Hun
  · iempintro

/-- It enters the region with that, -/
theorem region_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ start
  iintro ⟨⟨Hs, Hu⟩, -, Hr⟩
  isplitl [Hs]; · iexact Hs
  isplitl [Hu] <;> iassumption

/-- and leaves it with every semaphore at zero. -/
theorem region_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₂ c from rfl, scopedRest0_eq, unscopedSems0_eq]
  unfold Φ₂
  iintro ⟨⟨HB, HC⟩, HU, Hr⟩
  isplitl [HB]; · iexact HB
  isplitl [HC HU]
  · iapply (sems_join (F := F) c)
    isplitl [HC] <;> iassumption
  iexact Hr

/-- All a device ever owes lies above the semaphores of its windows. -/
theorem dueAt_above (c : Dev nD) (t : ℕ) : ∀ p ∈ dueAt c t, p.1.1.2 = .tc ∧ 0 < lvk (ck p.1.2) := by
  rcases t with _ | _ | _ | _ | t
  · exact due0_above c 0 (by omega)
  · exact due1_above c 0 (by omega)
  · exact due1_above c 0 (by omega)
  · exact due1_above c 0 (by omega)
  · intro p hp; exact absurd hp List.not_mem_nil

/-- The pipeline's own waits lie below all that is owed. -/
theorem waits (c : Dev nD) : (levAts L lv : sProp 𝕄) ⊢ Pipeline.cellsWaits cfgs (dats m) () 0 c :=
  Pipeline.cellsWaits_intro cfgs (dats m) () 0 c fun w s t =>
    mayWait c _ (dueAt c t.val) fun p hp => by
      have h0 := dueAt_above c t.val p hp
      refine ⟨h0.1, lt_of_le_of_lt (le_of_eq ?_) h0.2⟩
      clear h0 hp
      fin_cases w <;> fin_cases s <;> decide

end Cert.Exchange

end
-- ==== Proof.Run.lean ====
/-
The run: from any memory every execution of the kernel on the four devices ends, with the result arrays at the computed
contents, the arguments unchanged and every semaphore at zero.
-/
module

public import proofs.«01_k».proof.Proof.Start
public import Idealize.ShloMosaic.Lib.Pipeline.CollectiveSegs
public import Idealize.ShloMosaic.Lib.Pipeline.ValueKit.Geometry
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 8000 in
/-- Every execution ends; each window's array then holds what the data say, and every semaphore is at zero. -/
theorem run_main (ρ : Dev nD → PrngReg) : θ_run defs (onTc (τ := τ) (main (F := F))) ⟨m, fun _ => 0, ρ⟩
    (fun r => (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => owe (due0 d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := region_enter m) (hout := region_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array of a device is written once, at the last point. -/
theorem result_eq (c : Dev nD) : (dats m 0 c).arrAt 2 cfg0.N = outAll m c := by
  refine (dats m 0 c).arrAt_eq_of_after_last 2 t0_3 (by decide +kernel) _ fun j => ?_
  rfl

/-- Every execution ends with each device's result computed, its arguments unchanged and every semaphore at zero. -/
theorem run_result (ρ : Dev nD → PrngReg) : θ_run defs (onTc (τ := τ) (main (F := F))) ⟨m, fun _ => 0, ρ⟩
    (fun r => (∀ c : Dev nD, r.2.mem ((c.tc : Thread nD τ).loc main_v1) = outAll m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨(h.1 c 2).trans (result_eq m c), (h.1 c 0).trans ((dats m 0 c).arrAt_in 0 rfl _),
    (h.1 c 1).trans ((dats m 0 c).arrAt_in 1 rfl _)⟩, h.2⟩) (run_main m ρ)

end Cert.Exchange

end
-- ==== Proof.Frames.lean ====
/-
The kernel as compiled and the kernel at exact arithmetic are one text: both frames are the run, read at their own
values.
-/
module

public import proofs.«01_k».proof.Proof.Run
public import proofs.«01_k».proof.Defs
public import proofs.«01_k».proof.Proof.Gen.Kernel
public import proofs.«01_k».proof.Proof.Gen.ReferenceIdeal.Frame

@[expose] public section

noncomputable section

namespace Cert.Exchange

open Idealize.ShloMosaic Idealize.SL.Sem

/-- The compiled kernel's body table is the other's, label by label, -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))
/-- and so is its table of regions. -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

/-- The compiled kernel ends, keeps its arguments and leaves every semaphore at zero. -/
theorem frame_kernel : Cert.quiescent_Kernel := fun m ρ _ => by
  have h : θ_run (Cert.KernelIdeal.defs (F := Bits)) (onTc (τ := Cert.KernelIdeal.τ) (Cert.KernelIdeal.main (F := Bits))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) ∧ r.2.sem = fun _ => 0) :=
    (θ_run (Cert.KernelIdeal.defs (F := Bits)) _ _).mono (fun _ h => ⟨fun c => (h.1 c).2, h.2⟩) (run_result (F := Bits) m ρ)
  rw [← defs_eq] at h
  exact h

/-- So does the kernel at exact arithmetic. -/
theorem frame_kernelIdeal : Cert.quiescent_KernelIdeal := fun m ρ _ =>
  (θ_run (Cert.KernelIdeal.defs (F := Ideal)) _ _).mono (fun _ h => ⟨fun c => (h.1 c).2, h.2⟩) (run_result (F := Ideal) m ρ)

/-- So does the reference. -/
theorem frame_reference : Cert.quiescent_ReferenceIdeal := fun m ρ _ => Cert.ReferenceIdeal.Gen.frame m ρ

end Cert.Exchange

end
-- ==== Proof.Scale.lean ====
/-
The scalar law: a product entry multiplied by `448 / amax`, clipped and scaled back is the entry divided by `amax / 448`,
clipped and scaled back, whenever `amax` bounds the entry's size.
-/
module

public import Idealize.ShloMosaic.PureOps.Ideal
public import Idealize.ShloMosaic.PureOps.Ideal.Laws

@[expose] public section

noncomputable section

namespace Cert.Exchange

open Idealize.ShloMosaic

/-- The pattern of 448 is the real 448. -/
theorem ofBits_448 : Ideal.ofBits .f32 1138753536#32 = ((448 : ℝ) : EReal) := by
  simp [Ideal.ofBits, Ideal.ieee, -EReal.coe_mul]; norm_num

/-- An entry quantised by multiplying with the reciprocal scale, and scaled back. -/
def quantMul (a y : EReal) : EReal :=
  min (Ideal.ofBits .f32 1138753536#32) (max (Ideal.ofBits .f32 3286237184#32) (y * Ideal.div (Ideal.ofBits .f32 1138753536#32) a))
    * Ideal.div a (Ideal.ofBits .f32 1138753536#32)

/-- An entry quantised by dividing by the scale, and scaled back. -/
def quantDiv (a y : EReal) : EReal :=
  min (Ideal.ofBits .f32 1138753536#32) (max (Ideal.ofBits .f32 3286237184#32) (Ideal.div y (Ideal.div a (Ideal.ofBits .f32 1138753536#32))))
    * Ideal.div a (Ideal.ofBits .f32 1138753536#32)

/-- The two agree on entries no larger than `a`. -/
theorem quantMul_eq_quantDiv (a y : EReal) (h : max y (-y) ≤ a) : quantMul a y = quantDiv a y := by
  have ha : 0 ≤ a := by
    refine le_trans ?_ h
    rcases le_total 0 y with h0 | h0
    · exact le_max_of_le_left h0
    · exact le_max_of_le_right (by simpa using EReal.neg_le_neg_iff.mpr h0)
  unfold quantMul quantDiv
  rw [ofBits_448]
  have hK : ((448 : ℝ) : EReal) ≠ 0 := by norm_num
  have hs : Ideal.div a ((448 : ℝ) : EReal) = a * (((1 / 448 : ℝ)) : EReal) := Ideal.div_coe (by norm_num) a
  induction a using EReal.rec with
  | bot => simp at ha
  | top =>
    have e : Ideal.div ⊤ ((448 : ℝ) : EReal) = ⊤ := by rw [hs]; exact EReal.top_mul_coe_of_pos (by norm_num)
    rw [e]
    have e1 : Ideal.div ((448 : ℝ) : EReal) ⊤ = 0 := by unfold Ideal.div; simp
    have e2 : Ideal.div y ⊤ = 0 := by unfold Ideal.div; simp
    rw [e1, e2, mul_zero]
  | coe r =>
    by_cases hr : r = 0
    · subst hr
      have e : Ideal.div ((0 : ℝ) : EReal) ((448 : ℝ) : EReal) = 0 := by rw [hs]; simp
      rw [e, mul_zero, mul_zero]
    · have e1 : Ideal.div ((448 : ℝ) : EReal) (r : EReal) = ((448 * (1 / r) : ℝ) : EReal) := by
        rw [Ideal.div_coe hr, ← EReal.coe_mul]
      have e2 : Ideal.div y (Ideal.div (r : EReal) ((448 : ℝ) : EReal)) = y * ((1 / (r * (1 / 448)) : ℝ) : EReal) := by
        rw [hs, ← EReal.coe_mul, Ideal.div_coe (mul_ne_zero hr (by norm_num))]
      rw [e1, e2, show (448 * (1 / r) : ℝ) = 1 / (r * (1 / 448)) by field_simp]

end Cert.Exchange

end
-- ==== Proof.Maximum.lean ====
/-
The payloads of the kernel and of the reference read at an index, at exact arithmetic.
-/
module

public import proofs.«01_k».proof.Proof.Contents
public import proofs.«01_k».proof.Proof.Scale
public import proofs.«01_k».proof.Proof.Gen.ReferenceIdeal.Value
public import Idealize.ShloMosaic.Lib.Pointwise

@[expose] public section

noncomputable section

namespace Cert.Exchange

open Cert.KernelIdeal Cert.KernelIdeal.Gen
open Idealize.ShloMosaic

/-- The value the maxima start from. -/
abbrev base : EReal := Ideal.ofBits .f32 4286578688#32

/-- A bound on a maximum bounds its start and every term. -/
theorem fold_le {ι : Type} [Fintype ι] (f : ι → EReal) (b : EReal) :
    Finset.fold max base f Finset.univ ≤ b ↔ base ≤ b ∧ ∀ p, f p ≤ b := by
  simp [Finset.fold_max_le]

/-- A block's product at an index: row times column. -/
theorem pay2_apply (x : Vec Ideal S1024x4096 .bf16) (w : Vec Ideal S4096x512 .bf16) (j : S1024x512.Idx) :
    k0_pay2 (F := Ideal) x w j = ∑ k, (x (ix2 (j 0) k) * w (ix2 k (j 1)) : EReal) := by
  pointwise [k0_pay2, k0_pay1]

/-- A bound on the block's maximum bounds the absolute value of every product entry. -/
theorem pay3_le (x : Vec Ideal S1024x4096 .bf16) (w : Vec Ideal S4096x512 .bf16) (j : S1x128.Idx) (b : EReal) :
    (k0_pay3 (F := Ideal) x w j : EReal) ≤ b ↔ base ≤ b ∧ ∀ p : Fin 1024 × Fin 512, max (k0_pay2 (F := Ideal) x w (ix2 p.1 p.2) : EReal) (-k0_pay2 (F := Ideal) x w (ix2 p.1 p.2) : EReal) ≤ b := by
  simp only [pay2_apply]
  pointwise [k0_pay3, k0_pay1]
  exact fold_le _ b

/-- The first row of maxima is the first block's maximum. -/
theorem pay4_apply (x : Vec Ideal S1024x4096 .bf16) (w : Vec Ideal S4096x512 .bf16) (j : S1x128.Idx) :
    k0_pay4 (F := Ideal) x w j = k0_pay3 (F := Ideal) x w j := by
  pointwise [k0_pay4]

/-- A later one is the larger of the running maximum and the block's. -/
theorem pay5_apply (x : Vec Ideal S1024x4096 .bf16) (w : Vec Ideal S4096x512 .bf16) (v : Vec Ideal S1x128 .f32) (j : S1x128.Idx) :
    (k0_pay5 (F := Ideal) x w v j : EReal) = max (v j : EReal) (k0_pay3 (F := Ideal) x w j : EReal) := by
  pointwise [k0_pay5]

/-- A bound on the maximum over the four rows bounds each of their entries. -/
theorem pay6_le (v : Vec Ideal S4x128 .f32) (b : EReal) :
    (k0_pay6 (F := Ideal) v : EReal) ≤ b ↔ base ≤ b ∧ ∀ p : Fin 4 × Fin 128, (v (ix2 p.1 p.2) : EReal) ≤ b := by
  pointwise [k0_pay6]
  exact fold_le _ b

/-- The scale is the maximum over 448, -/
theorem pay7_apply (v : Vec Ideal S4x128 .f32) : k0_pay7 (F := Ideal) v = Ideal.div (k0_pay6 (F := Ideal) v) (Ideal.ofBits .f32 1138753536#32) := by
  rfl

/-- and the reciprocal scale 448 over the maximum. -/
theorem pay8_apply (v : Vec Ideal S4x128 .f32) : k0_pay8 (F := Ideal) v = Ideal.div (Ideal.ofBits .f32 1138753536#32) (k0_pay6 (F := Ideal) v) := by
  rfl

/-- A received block scaled: entry by entry the quantised product entry, scaled back. -/
theorem scaled_apply (v v' : Vec Ideal S4x128 .f32) (h : k0_pay6 (F := Ideal) v' = k0_pay6 (F := Ideal) v) (y : Vec Ideal S1024x512 .f32) (j : S1024x512.Idx) :
    (k0_pay16 (F := Ideal) (k0_pay7 v) (k0_pay9 (k0_pay8 v') y) j : EReal) = quantMul (k0_pay6 (F := Ideal) v) (y j) := by
  rw [pay7_apply, pay8_apply, h]; unfold quantMul
  generalize k0_pay6 (F := Ideal) v = a
  pointwise [k0_pay16, k0_pay9]

/-- So is a device's own block. -/
theorem own_apply (v : Vec Ideal S4x128 .f32) (y : Vec Ideal S1024x512 .f32) (j : S1024x512.Idx) :
    (k0_pay13 (F := Ideal) (k0_pay7 v) y (k0_pay12 (k0_pay8 v)) j : EReal) = quantMul (k0_pay6 (F := Ideal) v) (y j) := by
  rw [pay7_apply, pay8_apply]; unfold quantMul
  generalize k0_pay6 (F := Ideal) v = a
  pointwise [k0_pay13, k0_pay12]

/-- The reference's product. -/
def prod (X : Vec Ideal Cert.ReferenceIdeal.S4096x4096 .bf16) (W : Vec Ideal Cert.ReferenceIdeal.S4096x2048 .bf16) (r : Fin 4096) (n : Fin 2048) : EReal :=
  ∑ k : Fin 4096, (X (ix2 r k) * W (ix2 k n) : EReal)

/-- Its largest absolute value. -/
def amax (X : Vec Ideal Cert.ReferenceIdeal.S4096x4096 .bf16) (W : Vec Ideal Cert.ReferenceIdeal.S4096x2048 .bf16) : EReal :=
  Finset.fold max base (fun p : Fin 4096 × Fin 2048 => max (prod X W p.1 p.2) (-prod X W p.1 p.2)) Finset.univ

/-- A bound on the reference's maximum bounds the absolute value of every product entry. -/
theorem amax_le (X : Vec Ideal Cert.ReferenceIdeal.S4096x4096 .bf16) (W : Vec Ideal Cert.ReferenceIdeal.S4096x2048 .bf16) (b : EReal) :
    amax X W ≤ b ↔ base ≤ b ∧ ∀ p : Fin 4096 × Fin 2048, max (prod X W p.1 p.2) (-prod X W p.1 p.2) ≤ b := fold_le _ b

/-- The reference's result, entry by entry. -/
theorem ref_apply (X : Vec Ideal Cert.ReferenceIdeal.S4096x4096 .bf16) (W : Vec Ideal Cert.ReferenceIdeal.S4096x2048 .bf16) (j : Cert.ReferenceIdeal.S4096x2048.Idx) :
    (Cert.ReferenceIdeal.Gen.k0_pay1 (F := Ideal) X W j : EReal) = quantDiv (amax X W) (prod X W (j 0) (j 1)) := by
  unfold quantDiv
  pointwise [Cert.ReferenceIdeal.Gen.k0_pay1]
  rfl

end Cert.Exchange

end
-- ==== Proof.Product.lean ====
/-
The value of the kernel at exact arithmetic: each device's result is its columns of the reference's.
-/
module

public import proofs.«01_k».proof.Proof.Maximum
public import proofs.«01_k».proof.Proof.Run
public import proofs.«01_k».proof.Defs

@[expose] public section

noncomputable section

namespace Cert.Exchange

open Cert.KernelIdeal Cert.KernelIdeal.Gen
open Idealize.ShloMosaic Idealize.SL.Sem
open Idealize.ShloMosaic.TcCoe

/-! ## The blocks of the arguments -/

/-- The window on `x` is the whole of it at every point; -/
theorem index_x : ∀ t : Fin cfg0.N, win0_0.index t (0 : Fin 2) = 0 ∧ win0_0.index t (1 : Fin 2) = 0 :=
  (by decide +kernel : ∀ t : Fin grid0.N, _)
/-- the window on `w` is column block `t`. -/
theorem index_w : ∀ t : Fin cfg0.N, win0_1.index t (0 : Fin 2) = 0 ∧ win0_1.index t (1 : Fin 2) = t.val :=
  (by decide +kernel : ∀ t : Fin grid0.N, _)

section Args
variable (m : (ℓ : Loc nD τ sig) → Buf (Elt Ideal) ℓ) (c : Dev nD)

/-- The rows of `x` the body loads are the argument as launched; -/
theorem xb_apply (r : Fin 1024) (k : Fin 4096) : xb m c (ix2 r k) = m ((c : Thread nD τ).loc main_arg0) (ix2 r k) := by
  obtain ⟨e0, e1⟩ := index_x (tk 0)
  have e : ((cfg0.win 0).blk (tk 0)).view.emb (ix2 r k) = ix2 r k := by
    funext a; apply Fin.ext
    match a with
    | ⟨0, _⟩ => show win0_0.index (tk 0) (0 : Fin 2) * 1024 + 1 * r.val = r.val; omega
    | ⟨1, _⟩ => show win0_0.index (tk 0) (1 : Fin 2) * 4096 + 1 * k.val = k.val; omega
  show V m c main_arg0 (((cfg0.win 0).blk (tk 0)).view.emb (ix2 r k)) = _
  rw [e, V_main_arg0]

/-- the block of `w` loaded at point `j` is columns `512 j …` of the argument. -/
theorem wb_apply (j : ℕ) (hj : j < 4) (k : Fin 4096) (n : Fin 512) :
    wb m c j (ix2 k n) = m ((c : Thread nD τ).loc main_arg1) (ix2 k (⟨512 * j + n.val, by omega⟩ : Fin 2048)) := by
  obtain ⟨e0, e1⟩ := index_w (tk j)
  have ht : (tk j).val = j := Nat.mod_eq_of_lt hj
  have e : ((cfg0.win 1).blk (tk j)).view.emb (ix2 k n) = ix2 k (⟨512 * j + n.val, by omega⟩ : Fin 2048) := by
    funext a; apply Fin.ext
    match a with
    | ⟨0, _⟩ => show win0_1.index (tk j) (0 : Fin 2) * 4096 + 1 * k.val = k.val; omega
    | ⟨1, _⟩ => show win0_1.index (tk j) (1 : Fin 2) * 512 + 1 * n.val = 512 * j + n.val; omega
  show V m c main_arg1 (((cfg0.win 1).blk (tk j)).view.emb (ix2 k n)) = _
  rw [e, V_main_arg1]

end Args

/-! ## The result -/

section Result
variable (m : (ℓ : Loc nD τ sig) → Buf (Elt Ideal) ℓ)
variable (X : Vec Ideal Cert.ReferenceIdeal.S4096x4096 .bf16) (W : Vec Ideal Cert.ReferenceIdeal.S4096x2048 .bf16)
variable (h : ∀ c : Dev nD, m ((c : Thread nD τ).loc main_arg0) = Layout.block ⟨2, ![1024, 4096]⟩ ⟨2, ![4096, 4096]⟩ 0 4 c X
  ∧ m ((c : Thread nD τ).loc main_arg1) = W)
include h

/-- Column block `j` of device `c`'s product is rows `1024 c …` and columns `512 j …` of the reference's product. -/
theorem yblk_apply (c : Dev nD) (j : ℕ) (hj : j < 4) (r : Fin 1024) (n : Fin 512) (r' : Fin 4096) (n' : Fin 2048)
    (hr : r'.val = 1024 * c.val + r.val) (hn : n'.val = 512 * j + n.val) : (yblk m c j (ix2 r n) : EReal) = prod X W r' n' := by
  refine (pay2_apply _ _ _).trans ?_
  unfold prod
  refine Finset.sum_congr rfl fun k _ => ?_
  show (xb m c (ix2 r k) * wb m c j (ix2 k n) : EReal) = _
  rw [xb_apply, wb_apply m c j hj, (h c).1, (h c).2, Layout.block_apply]
  have e1 : (Layout.Tiles.idx (S := ⟨2, ![1024, 4096]⟩) (T := ⟨2, ![4096, 4096]⟩) (a := 0) (k := 4) (by decide) c (ix2 r k)) = ix2 r' k := by
    funext a; apply Fin.ext
    match a with
    | ⟨0, _⟩ => show c.val * 1024 + r.val = r'.val; omega
    | ⟨1, _⟩ => rfl
  have e2 : (⟨512 * j + n.val, by omega⟩ : Fin 2048) = n' := Fin.ext hn.symm
  rw [e2]; exact congrArg (fun i => (X i * W (ix2 k n') : EReal)) e1

omit h in
/-- The running maxima after point `t` bound the first `t + 1` column blocks, and no less will. -/
theorem rowMax_le (c : Dev nD) (t : ℕ) (z : S1x128.Idx) (b : EReal) :
    (rowMax m c t z : EReal) ≤ b ↔ base ≤ b ∧ ∀ j, j < t + 1 → ∀ p : Fin 1024 × Fin 512, max (yblk m c j (ix2 p.1 p.2) : EReal) (-yblk m c j (ix2 p.1 p.2) : EReal) ≤ b := by
  induction t with
  | zero =>
    unfold rowMax; rw [pay4_apply, pay3_le]
    exact and_congr_right fun _ => ⟨fun h j hj => by obtain rfl : j = 0 := by omega
                                                     exact h, fun h => h 0 (by omega)⟩
  | succ t ih =>
    unfold rowMax
    rw [pay5_apply, max_le_iff, ih, pay3_le]
    constructor
    · rintro ⟨⟨hb, h1⟩, -, h2⟩
      refine ⟨hb, fun j hj => ?_⟩
      by_cases hj' : j < t + 1
      · exact h1 j hj'
      · obtain rfl : j = t + 1 := by omega
        exact h2
    · rintro ⟨hb, h1⟩
      exact ⟨⟨hb, fun j hj => h1 j (by omega)⟩, hb, h1 (t + 1) (by omega)⟩

omit h in
/-- Going back by each of the four distances reaches every device. -/
theorem back_surj : ∀ c d : Dev nD, ∃ n : Fin 4, back c n.val = d := by decide

/-- The maximum every device reads off its rows is the reference's. -/
theorem amax_eq (c : Dev nD) : (k0_pay6 (F := Ideal) (ab m c) : EReal) = amax X W := by
  refine eq_of_forall_ge_iff fun b => ?_
  rw [pay6_le, amax_le]
  refine and_congr_right fun hb => ?_
  constructor
  · rintro H ⟨r, n⟩
    obtain ⟨q, hq⟩ := back_surj c ⟨r.val / 1024, Nat.div_lt_of_lt_mul r.isLt⟩
    have H1 : (rowMax m (back c q.val) 3 (ix2 0 0) : EReal) ≤ b := H (q, 0)
    rw [rowMax_le] at H1
    have H2 := H1.2 (n.val / 512) (by omega) (⟨r.val % 1024, Nat.mod_lt _ (by decide)⟩, ⟨n.val % 512, Nat.mod_lt _ (by decide)⟩)
    rwa [yblk_apply m X W h _ _ (by omega) _ _ r n (by rw [hq]; show r.val = 1024 * (r.val / 1024) + r.val % 1024; omega)
      (by show n.val = 512 * (n.val / 512) + n.val % 512; omega)] at H2
  · rintro H ⟨q, z⟩
    show (rowMax m (back c q.val) 3 (ix2 0 z) : EReal) ≤ b
    rw [rowMax_le]
    refine ⟨hb, fun j hj p => ?_⟩
    have hd : (back c q.val).val < 4 := (back c q.val).isLt
    rw [yblk_apply m X W h _ _ (by omega) _ _ (⟨1024 * (back c q.val).val + p.1.val, by omega⟩) (⟨512 * j + p.2.val, by omega⟩) rfl rfl]
    exact H (_, _)

omit h in
/-- A product entry is no larger than the maximum. -/
theorem prod_le (r : Fin 4096) (n : Fin 2048) : max (prod X W r n) (-prod X W r n) ≤ amax X W :=
  ((amax_le X W _).mp le_rfl).2 (r, n)

/-- Row block `p` of device `c`'s result, entry by entry: the reference's entry, quantised and scaled back. -/
theorem outBlk_apply (c p : Dev nD) (j : S1024x512.Idx) : (outBlk m c p j : EReal) = quantMul (amax X W) (yblk m p c.val j) := by
  unfold outBlk
  split
  · rename_i hp; subst hp
    rw [own_apply, amax_eq m X W h]
  · unfold qb
    rw [scaled_apply _ _ ((amax_eq m X W h p).trans (amax_eq m X W h c).symm), amax_eq m X W h]

/-- Device `c`'s result is column block `c` of the reference's. -/
theorem outAll_eq (c : Dev nD) : outAll m c
    = Layout.block ⟨2, ![4096, 512]⟩ ⟨2, ![4096, 2048]⟩ 1 4 c (Cert.ReferenceIdeal.Value.G2 (F := Ideal) X W) := by
  funext i
  rw [Layout.block_apply]
  have h0 : (i 0).val < 4096 := (i 0).isLt
  have h1 : (i 1).val < 512 := (i 1).isLt
  have hc : c.val < 4 := c.isLt
  refine (outBlk_apply m X W h c _ _).trans ?_
  have e := yblk_apply m X W h (rowDev (i 0).val) c.val hc ⟨(i 0).val % 1024, Nat.mod_lt _ (by decide)⟩ (i 1) ⟨(i 0).val, h0⟩
    ⟨512 * c.val + (i 1).val, by omega⟩
    (by show (i 0).val = 1024 * ((i 0).val / 1024 % 4) + (i 0).val % 1024; omega) rfl
  refine (congrArg (quantMul (amax X W)) e).trans ?_
  rw [quantMul_eq_quantDiv _ _ (prod_le X W _ _)]
  refine Eq.trans ?_ (ref_apply X W _).symm
  congr 2
  exact Fin.ext (show 512 * c.val + (i 1).val = c.val * 512 + (i 1).val by omega)

end Result

/-- At exact arithmetic the kernel, on devices holding row blocks of `x` and the whole of `w`, ends with each device holding
    its column block of the reference's result. -/
theorem kernel_value : Cert.algebraic_KernelIdeal_ReferenceIdeal := fun m g m' g' _ h => by
  refine ⟨_, (θ_run _ _ _).mono (fun r hr c => ?_) (run_result (F := Ideal) m g), (θ_run _ _ _).mono (fun r hr => hr 0) (Cert.ReferenceIdeal.Value.run (F := Ideal) m' g')⟩
  refine ⟨(hr.1 c).1.trans (outAll_eq m _ _ h c), (hr.1 c).2⟩

end Cert.Exchange

end
-- ==== Proof.lean ====
/-
The proof of `Cert.Claim`: every execution of the kernel on the four devices ends, keeping its arguments and leaving every
semaphore at zero, compiled or at exact arithmetic; so does the reference; the two kernels are one text; and at exact
arithmetic each device's result is its columns of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Product
public import Idealize.ShloMosaic.Adequacy
public import Idealize.ShloMosaic.Init

@[expose] public section

noncomputable section

namespace Cert.Proof

open Idealize.ShloMosaic Idealize.SL.Sem

/-- The five claims together. -/
theorem claim : Cert.Claim := ⟨Cert.Kernel.Gen.facts, Cert.KernelIdeal.Gen.facts, Cert.ReferenceIdeal.Gen.facts,
  Cert.Exchange.frame_kernel, Cert.Exchange.frame_kernelIdeal, Cert.Exchange.frame_reference, trivial, Cert.Exchange.kernel_value⟩

end Cert.Proof

end
